-- ==== Defs.lean ====
def Pre_Kernel (m : (ℓ : Loc Cert.Kernel.nD Cert.Kernel.τ Cert.Kernel.sig) → Buf (Elt Bits) ℓ) : Prop :=
  True

def Pre_KernelIdeal [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v71) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal) (hPre_finite_scores := hPre_finite_scores)
    ∧ quiescent_KernelIdeal_pre_none (hKernelIdeal := hKernelIdeal)
    ∧ quiescent_ReferenceIdeal (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x1536 : Shape := ⟨3, ![16, 2048, 1536]⟩
abbrev S8x15x31 : Shape := ⟨3, ![8, 15, 31]⟩
abbrev S16x2048x1024 : Shape := ⟨3, ![16, 2048, 1024]⟩
abbrev S_ : Shape := ⟨0, ![]⟩

class Facts : Prop where
  slices_S16x2048x1536_S16x2048x1024_0_0_0 : S16x2048x1536.Slices ![0, 0, 0] S16x2048x1024
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S16x2048x1536 .bf16) (main_arg1 : FVec F S8x15x31 .f32) : IVec S_ 1 :=
  let main_v0 : FVec F S16x2048x1024 .bf16 := (extractStridedSlice S16x2048x1024 ![0, 0, 0] · slices_S16x2048x1536_S16x2048x1024_0_0_0) main_arg0
  let main_v1 : FVec F S16x2048x1024 .bf16 := Host.absf main_v0
  let main_cst : FVec F S_ .bf16 := constant S_ .bf16 0x7F80#16
  let main_v2 : FVec F S16x2048x1024 .bf16 := broadcastInDim S16x2048x1024 ![] bcast_S_S16x2048x1024 main_cst
  let main_v3 : IVec S16x2048x1024 1 := cmpf .olt main_v1 main_v2
  let main_c : IVec S_ 1 := constantI S_ 1 1#1
  let main_v4 : IVec S_ 1 := (fun x v => Host.reduce IntOp.andi x v reducesTo_S16x2048x1024_S_d0_1_2 h_S_) main_v3 main_c
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  let main_c_1 : IVec S_ 1 := constantI S_ 1 1#1
  let main_v8 : IVec S_ 1 := (fun x v => Host.reduce IntOp.andi x v reducesTo_S8x15x31_S_d0_1_2 h_S_) main_v7 main_c_1
  let main_v9 : IVec S_ 1 := andi main_v4 main_v8
  main_v9
-- ==== Kernel.lean ====
abbrev S16x2048x1536 : Shape := ⟨3, ![16, 2048, 1536]⟩
abbrev S8x15x31 : Shape := ⟨3, ![8, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S31 : Shape := ⟨1, ![31]⟩
abbrev S31x1x1 : Shape := ⟨3, ![31, 1, 1]⟩
abbrev S1x64x64 : Shape := ⟨3, ![1, 64, 64]⟩
abbrev S31x64x64 : Shape := ⟨3, ![31, 64, 64]⟩
abbrev S8x15x64x64 : Shape := ⟨4, ![8, 15, 64, 64]⟩
abbrev S1x1x64x64 : Shape := ⟨4, ![1, 1, 64, 64]⟩
abbrev S8x8x64x64 : Shape := ⟨4, ![8, 8, 64, 64]⟩
abbrev S1x8x8x64x64 : Shape := ⟨5, ![1, 8, 8, 64, 64]⟩
abbrev S8x8x8x64x64 : Shape := ⟨5, ![8, 8, 8, 64, 64]⟩
abbrev S8x8x64x8x64 : Shape := ⟨5, ![8, 8, 64, 8, 64]⟩
abbrev S8x4x128x512 : Shape := ⟨4, ![8, 4, 128, 512]⟩
abbrev S16x2048x512 : Shape := ⟨3, ![16, 2048, 512]⟩
abbrev S1x2048x128 : Shape := ⟨3, ![1, 2048, 128]⟩
abbrev S8x1x128x512 : Shape := ⟨4, ![8, 1, 128, 512]⟩
abbrev S64x128 : Shape := ⟨2, ![64, 128]⟩
abbrev S1x512x128 : Shape := ⟨3, ![1, 512, 128]⟩
abbrev S512x128 : Shape := ⟨2, ![512, 128]⟩
abbrev S1x64x128 : Shape := ⟨3, ![1, 64, 128]⟩
abbrev S1x1x128x512 : Shape := ⟨4, ![1, 1, 128, 512]⟩
abbrev S128x512 : Shape := ⟨2, ![128, 512]⟩
abbrev S640x128 : Shape := ⟨2, ![640, 128]⟩
abbrev S640x512 : Shape := ⟨2, ![640, 512]⟩
abbrev S640 : Shape := ⟨1, ![640]⟩
abbrev S640x1 : Shape := ⟨2, ![640, 1]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S128 : Shape := ⟨1, ![128]⟩
abbrev S128x1 : Shape := ⟨2, ![128, 1]⟩

abbrev nBuf : Space → Nat
  | .hbm => 78
  | .vmem => 10
  | .smem => 0
  | _ => 0

abbrev bufTy : (tb : Table) → Fin (tcTables nBuf tb) → BufTy
  | .hbm, ⟨0, _⟩ => ⟨S16x2048x1536, .bf16⟩
  | .hbm, ⟨1, _⟩ => ⟨S8x15x31, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S_, .i32⟩
  | .hbm, ⟨7, _⟩ => ⟨S64x1, .i32⟩
  | .hbm, ⟨8, _⟩ => ⟨S64x1, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S64x1, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S31, .i32⟩
  | .hbm, ⟨45, _⟩ => ⟨S31x1x1, .i32⟩
  | .hbm, ⟨46, _⟩ => ⟨S1x64x64, .i32⟩
  | .hbm, ⟨47, _⟩ => ⟨S31x64x64, .i32⟩
  | .hbm, ⟨48, _⟩ => ⟨S31x64x64, .i32⟩
  | .hbm, ⟨49, _⟩ => ⟨S31x64x64, .i1⟩
  | .hbm, ⟨50, _⟩ => ⟨S31x64x64, .f32⟩
  | .hbm, ⟨51, _⟩ => ⟨S8x15x64x64, .f32⟩
  | .hbm, ⟨52, _⟩ => ⟨S1x1x64x64, .i1⟩
  | .hbm, ⟨53, _⟩ => ⟨S_, .f32⟩
  | .hbm, ⟨54, _⟩ => ⟨S_, .f32⟩
  | .hbm, ⟨55, _⟩ => ⟨S8x15x64x64, .i1⟩
  | .hbm, ⟨56, _⟩ => ⟨S8x15x64x64, .f32⟩
  | .hbm, ⟨57, _⟩ => ⟨S8x15x64x64, .f32⟩
  | .hbm, ⟨58, _⟩ => ⟨S8x8x64x64, .f32⟩
  | .hbm, ⟨59, _⟩ => ⟨S8x8x64x64, .f32⟩
  | .hbm, ⟨60, _⟩ => ⟨S8x8x64x64, .f32⟩
  | .hbm, ⟨61, _⟩ => ⟨S8x8x64x64, .f32⟩
  | .hbm, ⟨62, _⟩ => ⟨S8x8x64x64, .f32⟩
  | .hbm, ⟨63, _⟩ => ⟨S8x8x64x64, .f32⟩
  | .hbm, ⟨64, _⟩ => ⟨S8x8x64x64, .f32⟩
  | .hbm, ⟨65, _⟩ => ⟨S8x8x64x64, .f32⟩
  | .hbm, ⟨66, _⟩ => ⟨S1x8x8x64x64, .f32⟩
  | .hbm, ⟨67, _⟩ => ⟨S1x8x8x64x64, .f32⟩
  | .hbm, ⟨68, _⟩ => ⟨S1x8x8x64x64, .f32⟩
  | .hbm, ⟨69, _⟩ => ⟨S1x8x8x64x64, .f32⟩
  | .hbm, ⟨70, _⟩ => ⟨S1x8x8x64x64, .f32⟩
  | .hbm, ⟨71, _⟩ => ⟨S1x8x8x64x64, .f32⟩
  | .hbm, ⟨72, _⟩ => ⟨S1x8x8x64x64, .f32⟩
  | .hbm, ⟨73, _⟩ => ⟨S1x8x8x64x64, .f32⟩
  | .hbm, ⟨74, _⟩ => ⟨S8x8x8x64x64, .f32⟩
  | .hbm, ⟨75, _⟩ => ⟨S8x8x64x8x64, .f32⟩
  | .hbm, ⟨76, _⟩ => ⟨S8x4x128x512, .f32⟩
  | .hbm, ⟨77, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S8x1x128x512, .f32⟩
  | .local _ .vmem, ⟨7, _⟩ => ⟨S8x1x128x512, .f32⟩
  | .local _ .vmem, ⟨8, _⟩ => ⟨S1x2048x128, .bf16⟩
  | .local _ .vmem, ⟨9, _⟩ => ⟨S1x2048x128, .bf16⟩
  | _, _ => ⟨S16x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c5_i32 : BitVec 32 := 5#32
  let c23_i32 : BitVec 32 := 23#32
  let v167 : BitVec 32 := Scalar.addi c5_i32 c23_i32
  let c1_i32 : BitVec 32 := 1#32
  ⟨c5_i32, v167, c1_i32⟩
def k0_mult1 (k0_t1 : Fin k0_t1_loop.trips) : BitVec 32 :=
  let c24_i32 : BitVec 32 := 24#32
  let c0_i32 : BitVec 32 := 0#32
  let c5_i32 : BitVec 32 := 5#32
  let c1_i32 : BitVec 32 := 1#32
  let arg7 : BitVec 32 := Scf.iv c5_i32 c1_i32 k0_t1
  let c4_i32 : BitVec 32 := 4#32
  let v168 : BitVec 32 := Scalar.subi arg7 c4_i32
  let v169 : BitVec 32 := Scalar.maxsi c0_i32 v168
  let v170 : BitVec 32 := Scalar.minsi c24_i32 v169
  let c64_i32_102 : BitVec 32 := 64#32
  let v171 : BitVec 32 := Scalar.muli v170 c64_i32_102
  v171
def k0_off1 (k0_t1 : Fin k0_t1_loop.trips) : Fin 3 → Nat :=
  let c0_103 : Index := 0#32
  let c24_i32 : BitVec 32 := 24#32
  let c0_i32 : BitVec 32 := 0#32
  let c5_i32 : BitVec 32 := 5#32
  let c1_i32 : BitVec 32 := 1#32
  let arg7 : BitVec 32 := Scf.iv c5_i32 c1_i32 k0_t1
  let c4_i32 : BitVec 32 := 4#32
  let v168 : BitVec 32 := Scalar.subi arg7 c4_i32
  let v169 : BitVec 32 := Scalar.maxsi c0_i32 v168
  let v170 : BitVec 32 := Scalar.minsi c24_i32 v169
  let c64_i32_102 : BitVec 32 := 64#32
  let v171 : BitVec 32 := Scalar.muli v170 c64_i32_102
  let v172 : BitVec 32 := v171
  let v173 : Index := Scalar.indexCast v172
  let c0_104 : Index := 0#32
  ![0, v173.toNat, 0]
def k0_mult2 (k0_t1 : Fin k0_t1_loop.trips) : BitVec 32 :=
  let c24_i32 : BitVec 32 := 24#32
  let c0_i32 : BitVec 32 := 0#32
  let c5_i32 : BitVec 32 := 5#32
  let c1_i32 : BitVec 32 := 1#32
  let arg7 : BitVec 32 := Scf.iv c5_i32 c1_i32 k0_t1
  let c4_i32 : BitVec 32 := 4#32
  let v168 : BitVec 32 := Scalar.subi arg7 c4_i32
  let v169 : BitVec 32 := Scalar.maxsi c0_i32 v168
  let v170 : BitVec 32 := Scalar.minsi c24_i32 v169
  let c64_i32_105 : BitVec 32 := 64#32
  let v176 : BitVec 32 := Scalar.muli v170 c64_i32_105
  v176
def k0_mult3 (k0_t1 : Fin k0_t1_loop.trips) : BitVec 32 :=
  let c5_i32 : BitVec 32 := 5#32
  let c1_i32 : BitVec 32 := 1#32
  let arg7 : BitVec 32 := Scf.iv c5_i32 c1_i32 k0_t1
  let c64_i32_108 : BitVec 32 := 64#32
  let v181 : BitVec 32 := Scalar.muli arg7 c64_i32_108
  v181
def k0_off2 (k0_t1 : Fin k0_t1_loop.trips) : Fin 3 → Nat :=
  let c0_109 : Index := 0#32
  let c5_i32 : BitVec 32 := 5#32
  let c1_i32 : BitVec 32 := 1#32
  let arg7 : BitVec 32 := Scf.iv c5_i32 c1_i32 k0_t1
  let c64_i32_108 : BitVec 32 := 64#32
  let v181 : BitVec 32 := Scalar.muli arg7 c64_i32_108
  let v182 : BitVec 32 := v181
  let v183 : Index := Scalar.indexCast v182
  let c0_110 : Index := 0#32
  ![0, v183.toNat, 0]
def k0_off3 (k0_t1 : Fin k0_t1_loop.trips) : Fin 4 → Nat :=
  let c5_i32 : BitVec 32 := 5#32
  let c1_i32 : BitVec 32 := 1#32
  let arg7 : BitVec 32 := Scf.iv c5_i32 c1_i32 k0_t1
  let c24_i32 : BitVec 32 := 24#32
  let c0_i32 : BitVec 32 := 0#32
  let c4_i32 : BitVec 32 := 4#32
  let v168 : BitVec 32 := Scalar.subi arg7 c4_i32
  let v169 : BitVec 32 := Scalar.maxsi c0_i32 v168
  let v170 : BitVec 32 := Scalar.minsi c24_i32 v169
  let v189 : BitVec 32 := Scalar.subi arg7 v170
  let v190 : Index := Scalar.indexCast v189
  let c0_112 : Index := 0#32
  let c0_113 : Index := 0#32
  let c0_114 : Index := 0#32
  ![v190.toNat, 0, 0, 0]
def k0_mult4 (k0_t1 : Fin k0_t1_loop.trips) : BitVec 32 :=
  let c5_i32 : BitVec 32 := 5#32
  let c1_i32 : BitVec 32 := 1#32
  let arg7 : BitVec 32 := Scf.iv c5_i32 c1_i32 k0_t1
  let c64_i32_119 : BitVec 32 := 64#32
  let v211 : BitVec 32 := Scalar.muli arg7 c64_i32_119
  v211
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x2048x1536 : Shape := ⟨3, ![16, 2048, 1536]⟩
abbrev S8x15x31 : Shape := ⟨3, ![8, 15, 31]⟩
abbrev S16x2048x512 : Shape := ⟨3, ![16, 2048, 512]⟩
abbrev S16x2048x8x64 : Shape := ⟨4, ![16, 2048, 8, 64]⟩
abbrev S16x32x4x16x8x64 : Shape := ⟨6, ![16, 32, 4, 16, 8, 64]⟩
abbrev S16x32x64x8x64 : Shape := ⟨5, ![16, 32, 64, 8, 64]⟩
abbrev S64 : Shape := ⟨1, ![64]⟩
abbrev S_ : Shape := ⟨0, ![]⟩
abbrev S4 : Shape := ⟨1, ![4]⟩
abbrev S4x1 : Shape := ⟨2, ![4, 1]⟩
abbrev S32 : Shape := ⟨1, ![32]⟩
abbrev S1x32 : Shape := ⟨2, ![1, 32]⟩
abbrev S4x32 : Shape := ⟨2, ![4, 32]⟩
abbrev S4x16 : Shape := ⟨2, ![4, 16]⟩
abbrev S4x1x32 : Shape := ⟨3, ![4, 1, 32]⟩
abbrev S4x16x1 : Shape := ⟨3, ![4, 16, 1]⟩
abbrev S4x16x32 : Shape := ⟨3, ![4, 16, 32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x1x8x1 : Shape := ⟨4, ![32, 1, 8, 1]⟩
abbrev S1x4x1x32 : Shape := ⟨4, ![1, 4, 1, 32]⟩
abbrev S32x4x8x32 : Shape := ⟨4, ![32, 4, 8, 32]⟩
abbrev S32x4x8x32x1 : Shape := ⟨5, ![32, 4, 8, 32, 1]⟩
abbrev S32x4x8x32x2 : Shape := ⟨5, ![32, 4, 8, 32, 2]⟩
abbrev S16x32x4x8x32x8x64 : Shape := ⟨7, ![16, 32, 4, 8, 32, 8, 64]⟩
abbrev S16x8x32x4x16x8x32 : Shape := ⟨7, ![16, 8, 32, 4, 16, 8, 32]⟩
abbrev S32x1x1x8x1 : Shape := ⟨5, ![32, 1, 1, 8, 1]⟩
abbrev S1x4x16x1x32 : Shape := ⟨5, ![1, 4, 16, 1, 32]⟩
abbrev S32x4x16x8x32 : Shape := ⟨5, ![32, 4, 16, 8, 32]⟩
abbrev S32x4x16x8x32x1 : Shape := ⟨6, ![32, 4, 16, 8, 32, 1]⟩
abbrev S32x4x16x8x32x2 : Shape := ⟨6, ![32, 4, 16, 8, 32, 2]⟩
abbrev S8x32x4x16x8x32 : Shape := ⟨6, ![8, 32, 4, 16, 8, 32]⟩
abbrev S1x8x32x4x16x8x32 : Shape := ⟨7, ![1, 8, 32, 4, 16, 8, 32]⟩
abbrev S4x16x1x32 : Shape := ⟨4, ![4, 16, 1, 32]⟩
abbrev S16x8x32x4x16 : Shape := ⟨5, ![16, 8, 32, 4, 16]⟩
abbrev S16x8x32x4x16x1x1 : Shape := ⟨7, ![16, 8, 32, 4, 16, 1, 1]⟩
abbrev S16x32x4x8x64x16 : Shape := ⟨6, ![16, 32, 4, 8, 64, 16]⟩

abbrev nBuf : Space → Nat
  | .hbm => 199
  | .vmem => 0
  | .smem => 0
  | _ => 0

abbrev hbmTy0_0 (i : Nat) : BufTy := match i % 128 with
  | 0 => ⟨S16x2048x1536, .bf16⟩
  | 1 => ⟨S8x15x31, .f32⟩
  | 2 => ⟨S16x2048x1536, .f32⟩
  | 3 => ⟨S16x2048x512, .f32⟩
  | 4 => ⟨S16x2048x8x64, .f32⟩
  | 5 => ⟨S16x2048x512, .f32⟩
  | 6 => ⟨S16x2048x8x64, .f32⟩
  | 7 => ⟨S16x2048x512, .f32⟩
  | 8 => ⟨S16x2048x8x64, .f32⟩
  | 9 => ⟨S16x32x4x16x8x64, .f32⟩
  | 10 => ⟨S16x32x64x8x64, .f32⟩
  | 11 => ⟨S16x32x64x8x64, .f32⟩
  | 12 => ⟨S64, .i32⟩
  | 13 => ⟨S_, .i32⟩
  | 14 => ⟨S64, .i32⟩
  | 15 => ⟨S64, .i32⟩
  | 16 => ⟨S_, .i32⟩
  | 17 => ⟨S_, .i32⟩
  | 18 => ⟨S_, .i32⟩
  | 19 => ⟨S64, .i32⟩
  | 20 => ⟨S64, .i32⟩
  | 21 => ⟨S_, .i32⟩
  | 22 => ⟨S64, .i32⟩
  | 23 => ⟨S64, .i32⟩
  | 24 => ⟨S4, .i32⟩
  | 25 => ⟨S_, .i32⟩
  | 26 => ⟨S4, .i32⟩
  | 27 => ⟨S4, .i32⟩
  | 28 => ⟨S_, .i32⟩
  | 29 => ⟨S4, .i32⟩
  | 30 => ⟨S4, .i32⟩
  | 31 => ⟨S_, .i32⟩
  | 32 => ⟨S_, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4x1, .i32⟩
  | 40 => ⟨S32, .i32⟩
  | 41 => ⟨S1x32, .i32⟩
  | 42 => ⟨S4x32, .i32⟩
  | 43 => ⟨S4x32, .i32⟩
  | 44 => ⟨S4x32, .i32⟩
  | 45 => ⟨S4x16, .i32⟩
  | 46 => ⟨S4x16, .i32⟩
  | 47 => ⟨S4x1x32, .i32⟩
  | 48 => ⟨S4x16x1, .i32⟩
  | 49 => ⟨S4x16x32, .i32⟩
  | 50 => ⟨S4x16x32, .i32⟩
  | 51 => ⟨S4x16x32, .i1⟩
  | 52 => ⟨S4x16x1, .i32⟩
  | 53 => ⟨S_, .i32⟩
  | 54 => ⟨S4x16x1, .i32⟩
  | 55 => ⟨S4x16x1, .i32⟩
  | 56 => ⟨S4x16x32, .i32⟩
  | 57 => ⟨S4x16x32, .i32⟩
  | 58 => ⟨S4x16x32, .i1⟩
  | 59 => ⟨S4x16x32, .i1⟩
  | 60 => ⟨S4x16x1, .i32⟩
  | 61 => ⟨S4x16x32, .i32⟩
  | 62 => ⟨S4x16x32, .i32⟩
  | 63 => ⟨S4x16x32, .i32⟩
  | 64 => ⟨S_, .i32⟩
  | 65 => ⟨S4x16x32, .i32⟩
  | 66 => ⟨S4x16x32, .i32⟩
  | 67 => ⟨S_, .i32⟩
  | 68 => ⟨S4x16x32, .i32⟩
  | 69 => ⟨S4x16x32, .i32⟩
  | 70 => ⟨S_, .i32⟩
  | 71 => ⟨S_, .i32⟩
  | 72 => ⟨S_, .i32⟩
  | 73 => ⟨S4x16x32, .i32⟩
  | 74 => ⟨S4x16x32, .i32⟩
  | 75 => ⟨S_, .i32⟩
  | 76 => ⟨S4x16x32, .i32⟩
  | 77 => ⟨S4x16x32, .i32⟩
  | 78 => ⟨S32, .i32⟩
  | 79 => ⟨S_, .i32⟩
  | 80 => ⟨S32, .i32⟩
  | 81 => ⟨S32, .i32⟩
  | 82 => ⟨S_, .i32⟩
  | 83 => ⟨S_, .i32⟩
  | 84 => ⟨S_, .i32⟩
  | 85 => ⟨S32, .i32⟩
  | 86 => ⟨S32, .i32⟩
  | 87 => ⟨S_, .i32⟩
  | 88 => ⟨S32, .i32⟩
  | 89 => ⟨S32, .i32⟩
  | 90 => ⟨S32x1, .i32⟩
  | 91 => ⟨S8, .i32⟩
  | 92 => ⟨S1x8, .i32⟩
  | 93 => ⟨S32x8, .i32⟩
  | 94 => ⟨S32x8, .i32⟩
  | 95 => ⟨S32x8, .i32⟩
  | 96 => ⟨S32x1, .i32⟩
  | 97 => ⟨S32x8, .i32⟩
  | 98 => ⟨S32x8, .i32⟩
  | 99 => ⟨S_, .i32⟩
  | 100 => ⟨S32x8, .i32⟩
  | 101 => ⟨S32x8, .i32⟩
  | 102 => ⟨S_, .i32⟩
  | 103 => ⟨S32x8, .i32⟩
  | 104 => ⟨S32x8, .i32⟩
  | 105 => ⟨S32x1x8x1, .i32⟩
  | 106 => ⟨S1x4x1x32, .i32⟩
  | 107 => ⟨S_, .i32⟩
  | 108 => ⟨S32x1x8x1, .i32⟩
  | 109 => ⟨S32x1x8x1, .i1⟩
  | 110 => ⟨S_, .i32⟩
  | 111 => ⟨S32x1x8x1, .i32⟩
  | 112 => ⟨S32x1x8x1, .i32⟩
  | 113 => ⟨S32x1x8x1, .i32⟩
  | 114 => ⟨S_, .i32⟩
  | 115 => ⟨S1x4x1x32, .i32⟩
  | 116 => ⟨S1x4x1x32, .i1⟩
  | 117 => ⟨S_, .i32⟩
  | 118 => ⟨S1x4x1x32, .i32⟩
  | 119 => ⟨S1x4x1x32, .i32⟩
  | 120 => ⟨S1x4x1x32, .i32⟩
  | 121 => ⟨S32x4x8x32, .i32⟩
  | 122 => ⟨S32x4x8x32, .i32⟩
  | 123 => ⟨S32x4x8x32x1, .i32⟩
  | 124 => ⟨S32x4x8x32x1, .i32⟩
  | 125 => ⟨S32x4x8x32x2, .i32⟩
  | 126 => ⟨S16x32x4x8x32x8x64, .f32⟩
  | 127 => ⟨S32x1x8x1, .i32⟩
  | _ => ⟨S16x2048x1536, .bf16⟩

abbrev hbmTy0_1 (i : Nat) : BufTy := match i % 128 with
  | 0 => ⟨S1x4x1x32, .i32⟩
  | 1 => ⟨S_, .i32⟩
  | 2 => ⟨S32x1x8x1, .i32⟩
  | 3 => ⟨S32x1x8x1, .i1⟩
  | 4 => ⟨S_, .i32⟩
  | 5 => ⟨S32x1x8x1, .i32⟩
  | 6 => ⟨S32x1x8x1, .i32⟩
  | 7 => ⟨S32x1x8x1, .i32⟩
  | 8 => ⟨S_, .i32⟩
  | 9 => ⟨S1x4x1x32, .i32⟩
  | 10 => ⟨S1x4x1x32, .i1⟩
  | 11 => ⟨S_, .i32⟩
  | 12 => ⟨S1x4x1x32, .i32⟩
  | 13 => ⟨S1x4x1x32, .i32⟩
  | 14 => ⟨S1x4x1x32, .i32⟩
  | 15 => ⟨S32x4x8x32, .i32⟩
  | 16 => ⟨S32x4x8x32, .i32⟩
  | 17 => ⟨S32x4x8x32x1, .i32⟩
  | 18 => ⟨S32x4x8x32x1, .i32⟩
  | 19 => ⟨S32x4x8x32x2, .i32⟩
  | 20 => ⟨S16x32x4x8x32x8x64, .f32⟩
  | 21 => ⟨S16x8x32x4x16x8x32, .f32⟩
  | 22 => ⟨S32x1x1x8x1, .i32⟩
  | 23 => ⟨S1x4x16x1x32, .i32⟩
  | 24 => ⟨S_, .i32⟩
  | 25 => ⟨S32x1x1x8x1, .i32⟩
  | 26 => ⟨S32x1x1x8x1, .i1⟩
  | 27 => ⟨S_, .i32⟩
  | 28 => ⟨S32x1x1x8x1, .i32⟩
  | 29 => ⟨S32x1x1x8x1, .i32⟩
  | 30 => ⟨S32x1x1x8x1, .i32⟩
  | 31 => ⟨S_, .i32⟩
  | 32 => ⟨S1x4x16x1x32, .i32⟩
  | 33 => ⟨S1x4x16x1x32, .i1⟩
  | 34 => ⟨S_, .i32⟩
  | 35 => ⟨S1x4x16x1x32, .i32⟩
  | 36 => ⟨S1x4x16x1x32, .i32⟩
  | 37 => ⟨S1x4x16x1x32, .i32⟩
  | 38 => ⟨S32x4x16x8x32, .i32⟩
  | 39 => ⟨S32x4x16x8x32, .i32⟩
  | 40 => ⟨S32x4x16x8x32x1, .i32⟩
  | 41 => ⟨S32x4x16x8x32x1, .i32⟩
  | 42 => ⟨S32x4x16x8x32x2, .i32⟩
  | 43 => ⟨S8x32x4x16x8x32, .f32⟩
  | 44 => ⟨S1x8x32x4x16x8x32, .f32⟩
  | 45 => ⟨S16x8x32x4x16x8x32, .f32⟩
  | 46 => ⟨S16x8x32x4x16x8x32, .f32⟩
  | 47 => ⟨S4x16x1x32, .i1⟩
  | 48 => ⟨S_, .f32⟩
  | 49 => ⟨S_, .f32⟩
  | 50 => ⟨S16x8x32x4x16x8x32, .i1⟩
  | 51 => ⟨S16x8x32x4x16x8x32, .f32⟩
  | 52 => ⟨S16x8x32x4x16x8x32, .f32⟩
  | 53 => ⟨S_, .f32⟩
  | 54 => ⟨S16x8x32x4x16, .f32⟩
  | 55 => ⟨S_, .f32⟩
  | 56 => ⟨S16x8x32x4x16, .f32⟩
  | 57 => ⟨S16x8x32x4x16, .f32⟩
  | 58 => ⟨S16x8x32x4x16x1x1, .f32⟩
  | 59 => ⟨S16x8x32x4x16x8x32, .f32⟩
  | 60 => ⟨S16x8x32x4x16x8x32, .f32⟩
  | 61 => ⟨S16x8x32x4x16x8x32, .f32⟩
  | 62 => ⟨S_, .f32⟩
  | 63 => ⟨S16x8x32x4x16, .f32⟩
  | 64 => ⟨S16x8x32x4x16x1x1, .f32⟩
  | 65 => ⟨S16x8x32x4x16x8x32, .f32⟩
  | 66 => ⟨S16x8x32x4x16x8x32, .f32⟩
  | 67 => ⟨S16x32x4x8x64x16, .f32⟩
  | 68 => ⟨S16x32x4x16x8x64, .f32⟩
  | 69 => ⟨S16x2048x512, .f32⟩
  | 70 => ⟨S16x2048x512, .bf16⟩
  | _ => ⟨S16x2048x1536, .bf16⟩

abbrev hbmTy (i : Nat) : BufTy := match i / 128 with
  | 0 => hbmTy0_0 i
  | 1 => hbmTy0_1 i
  | _ => ⟨S16x2048x1536, .bf16⟩

abbrev bufTy : (tb : Table) → Fin (tcTables nBuf tb) → BufTy
  | .hbm, ⟨i, _⟩ => hbmTy i
  | _, _ => ⟨S16x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_c_10 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_v50 : Ref sig .tc := ⟨.hbm, 80, rfl⟩
abbrev main_v51 : Ref sig .tc := ⟨.hbm, 81, rfl⟩
abbrev main_c_12 : Ref sig .tc := ⟨.hbm, 82, rfl⟩
abbrev main_c_13 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_c_16 : Ref sig .tc := ⟨.hbm, 107, rfl⟩
abbrev main_v68 : Ref sig .tc := ⟨.hbm, 108, rfl⟩
abbrev main_v69 : Ref sig .tc := ⟨.hbm, 109, rfl⟩
abbrev main_c_17 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_c_18 : Ref sig .tc := ⟨.hbm, 114, rfl⟩
abbrev main_v73 : Ref sig .tc := ⟨.hbm, 115, rfl⟩
abbrev main_v74 : Ref sig .tc := ⟨.hbm, 116, rfl⟩
abbrev main_c_19 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_20 : Ref sig .tc := ⟨.hbm, 129, rfl⟩
abbrev main_v86 : Ref sig .tc := ⟨.hbm, 130, rfl⟩
abbrev main_v87 : Ref sig .tc := ⟨.hbm, 131, rfl⟩
abbrev main_c_21 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_22 : Ref sig .tc := ⟨.hbm, 136, rfl⟩
abbrev main_v91 : Ref sig .tc := ⟨.hbm, 137, rfl⟩
abbrev main_v92 : Ref sig .tc := ⟨.hbm, 138, rfl⟩
abbrev main_c_23 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_c_24 : Ref sig .tc := ⟨.hbm, 152, rfl⟩
abbrev main_v105 : Ref sig .tc := ⟨.hbm, 153, rfl⟩
abbrev main_v106 : Ref sig .tc := ⟨.hbm, 154, rfl⟩
abbrev main_c_25 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_c_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_v125 : Ref sig .tc := ⟨.hbm, 180, rfl⟩
abbrev main_cst_28 : Ref sig .tc := ⟨.hbm, 181, rfl⟩
abbrev main_v126 : Ref sig .tc := ⟨.hbm, 182, rfl⟩
abbrev main_cst_29 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_30 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩

abbrev nD : Nat := 1
abbrev τ : Topo := Topo.v7x

variable {F : FTy → Type} [FloatOps F]
-- ==== Kernel2.lean ====
abbrev S32768x1024 : Shape := ⟨2, ![32768, 1024]⟩
abbrev S16x6x1024 : Shape := ⟨3, ![16, 6, 1024]⟩
abbrev S1024x2560 : Shape := ⟨2, ![1024, 2560]⟩
abbrev S2560 : Shape := ⟨1, ![2560]⟩
abbrev S_ : Shape := ⟨0, ![]⟩
abbrev S512 : Shape := ⟨1, ![512]⟩
abbrev S2048 : Shape := ⟨1, ![2048]⟩
abbrev S1x2560 : Shape := ⟨2, ![1, 2560]⟩
abbrev S32768x1536 : Shape := ⟨2, ![32768, 1536]⟩
abbrev S512x1024 : Shape := ⟨2, ![512, 1024]⟩
abbrev S1x6x1024 : Shape := ⟨3, ![1, 6, 1024]⟩
abbrev S512x1536 : Shape := ⟨2, ![512, 1536]⟩
abbrev S1x1x1024 : Shape := ⟨3, ![1, 1, 1024]⟩
abbrev S1x1024 : Shape := ⟨2, ![1, 1024]⟩
abbrev S512x1 : Shape := ⟨2, ![512, 1]⟩
abbrev S1024x1536 : Shape := ⟨2, ![1024, 1536]⟩
abbrev S1x1536 : Shape := ⟨2, ![1, 1536]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024x2560, .f32⟩
  | .hbm, ⟨3, _⟩ => ⟨S2560, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S2048, .f32⟩
  | .hbm, ⟨8, _⟩ => ⟨S2560, .f32⟩
  | .hbm, ⟨9, _⟩ => ⟨S1x2560, .f32⟩
  | .hbm, ⟨10, _⟩ => ⟨S1024x2560, .f32⟩
  | .hbm, ⟨11, _⟩ => ⟨S1024x2560, .f32⟩
  | .hbm, ⟨12, _⟩ => ⟨S1024x2560, .bf16⟩
  | .hbm, ⟨13, _⟩ => ⟨S2560, .f32⟩
  | .hbm, ⟨14, _⟩ => ⟨S1x2560, .f32⟩
  | .hbm, ⟨15, _⟩ => ⟨S32768x1536, .bf16⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2560, .bf16⟩
  | .local _ .vmem, ⟨5, _⟩ => ⟨S1x2560, .f32⟩
  | .local _ .vmem, ⟨6, _⟩ => ⟨S512x1536, .bf16⟩
  | .local _ .vmem, ⟨7, _⟩ => ⟨S512x1536, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S16x6x1024 : Shape := ⟨3, ![16, 6, 1024]⟩
abbrev S1024x2560 : Shape := ⟨2, ![1024, 2560]⟩
abbrev S2560 : Shape := ⟨1, ![2560]⟩
abbrev S16x2048x1024 : Shape := ⟨3, ![16, 2048, 1024]⟩
abbrev S16x1x1024 : Shape := ⟨3, ![16, 1, 1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S16x2048x2560 : Shape := ⟨3, ![16, 2048, 2560]⟩
abbrev S1x1x2560 : Shape := ⟨3, ![1, 1, 2560]⟩
abbrev S16x2048x512 : Shape := ⟨3, ![16, 2048, 512]⟩
abbrev S16x2048x1536 : Shape := ⟨3, ![16, 2048, 1536]⟩
abbrev S32768x1536 : Shape := ⟨2, ![32768, 1536]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x6x1024, .f32⟩
  | .hbm, ⟨2, _⟩ => ⟨S1024x2560, .f32⟩
  | .hbm, ⟨3, _⟩ => ⟨S2560, .f32⟩
  | .hbm, ⟨4, _⟩ => ⟨S16x2048x1024, .f32⟩
  | .hbm, ⟨5, _⟩ => ⟨S16x1x1024, .f32⟩
  | .hbm, ⟨6, _⟩ => ⟨S16x1024, .f32⟩
  | .hbm, ⟨7, _⟩ => ⟨S16x1x1024, .f32⟩
  | .hbm, ⟨8, _⟩ => ⟨S16x1x1024, .f32⟩
  | .hbm, ⟨9, _⟩ => ⟨S16x1024, .f32⟩
  | .hbm, ⟨10, _⟩ => ⟨S16x1x1024, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x2560, .f32⟩
  | .hbm, ⟨42, _⟩ => ⟨S1x1x2560, .f32⟩
  | .hbm, ⟨43, _⟩ => ⟨S16x2048x2560, .f32⟩
  | .hbm, ⟨44, _⟩ => ⟨S16x2048x2560, .f32⟩
  | .hbm, ⟨45, _⟩ => ⟨S16x2048x512, .f32⟩
  | .hbm, ⟨46, _⟩ => ⟨S_, .f32⟩
  | .hbm, ⟨47, _⟩ => ⟨S16x2048x512, .f32⟩
  | .hbm, ⟨48, _⟩ => ⟨S16x2048x512, .f32⟩
  | .hbm, ⟨49, _⟩ => ⟨S16x2048x1024, .f32⟩
  | .hbm, ⟨50, _⟩ => ⟨S16x2048x1536, .f32⟩
  | .hbm, ⟨51, _⟩ => ⟨S16x2048x1024, .f32⟩
  | .hbm, ⟨52, _⟩ => ⟨S16x2048x1536, .bf16⟩
  | .hbm, ⟨53, _⟩ => ⟨S32768x1536, .bf16⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel3.lean ====
abbrev S32768x512 : Shape := ⟨2, ![32768, 512]⟩
abbrev S32768x1024 : Shape := ⟨2, ![32768, 1024]⟩
abbrev S16x6x1024 : Shape := ⟨3, ![16, 6, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S16x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x512 : Shape := ⟨2, ![32768, 512]⟩
abbrev S32768x1024 : Shape := ⟨2, ![32768, 1024]⟩
abbrev S16x6x1024 : Shape := ⟨3, ![16, 6, 1024]⟩
abbrev S1024x1024 : Shape := ⟨2, ![1024, 1024]⟩
abbrev S1024 : Shape := ⟨1, ![1024]⟩
abbrev S16x2048x1024 : Shape := ⟨3, ![16, 2048, 1024]⟩
abbrev S16x1x1024 : Shape := ⟨3, ![16, 1, 1024]⟩
abbrev S16x1024 : Shape := ⟨2, ![16, 1024]⟩
abbrev S1x1x1024 : Shape := ⟨3, ![1, 1, 1024]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S16x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S16x2048x1024, .f32⟩
  | .hbm, ⟨9, _⟩ => ⟨S16x1x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1024, .f32⟩
  | .hbm, ⟨14, _⟩ => ⟨S16x1x1024, .f32⟩
  | .hbm, ⟨15, _⟩ => ⟨S16x1x1024, .f32⟩
  | .hbm, ⟨16, _⟩ => ⟨S16x1024, .f32⟩
  | .hbm, ⟨17, _⟩ => ⟨S16x1x1024, .f32⟩
  | .hbm, ⟨18, _⟩ => ⟨S32768x512, .f32⟩
  | .hbm, ⟨19, _⟩ => ⟨S32768x512, .f32⟩
  | .hbm, ⟨20, _⟩ => ⟨S32768x1024, .f32⟩
  | .hbm, ⟨21, _⟩ => ⟨S16x2048x1024, .f32⟩
  | .hbm, ⟨22, _⟩ => ⟨S16x2048x1024, .f32⟩
  | .hbm, ⟨23, _⟩ => ⟨S1x1x1024, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S1x1x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S_, .f32⟩
  | .hbm, ⟨85, _⟩ => ⟨S16x1x1024, .f32⟩
  | .hbm, ⟨86, _⟩ => ⟨S16x1x1024, .f32⟩
  | .hbm, ⟨87, _⟩ => ⟨S16x2048x1024, .f32⟩
  | .hbm, ⟨88, _⟩ => ⟨S16x2048x1024, .f32⟩
  | .hbm, ⟨89, _⟩ => ⟨S16x2048x1024, .f32⟩
  | .hbm, ⟨90, _⟩ => ⟨S16x2048x1024, .f32⟩
  | .hbm, ⟨91, _⟩ => ⟨S32768x1024, .f32⟩
  | .hbm, ⟨92, _⟩ => ⟨S32768x1024, .f32⟩
  | .hbm, ⟨93, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S8x2x128x128 : Shape := ⟨4, ![8, 2, 128, 128]⟩
abbrev S1024x2048 : Shape := ⟨2, ![1024, 2048]⟩
abbrev S8x2x128x1024 : Shape := ⟨4, ![8, 2, 128, 1024]⟩
abbrev S1x1x128x128 : Shape := ⟨4, ![1, 1, 128, 128]⟩
abbrev S1024x128 : Shape := ⟨2, ![1024, 128]⟩
abbrev S1x1x128x1024 : Shape := ⟨4, ![1, 1, 128, 1024]⟩
abbrev S128x128 : Shape := ⟨2, ![128, 128]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2x128x128, .f32⟩
  | .hbm, ⟨1, _⟩ => ⟨S1024x2048, .f32⟩
  | .hbm, ⟨2, _⟩ => ⟨S8x2x128x1024, .f32⟩
  | .local _ .vmem, ⟨0, _⟩ => ⟨S1x1x128x128, .f32⟩
  | .local _ .vmem, ⟨1, _⟩ => ⟨S1x1x128x128, .f32⟩
  | .local _ .vmem, ⟨2, _⟩ => ⟨S1024x128, .f32⟩
  | .local _ .vmem, ⟨3, _⟩ => ⟨S1024x128, .f32⟩
  | .local _ .vmem, ⟨4, _⟩ => ⟨S1x1x128x1024, .f32⟩
  | .local _ .vmem, ⟨5, _⟩ => ⟨S1x1x128x1024, .f32⟩
  | _, _ => ⟨S8x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let v1 : BitVec 32 := Scalar.addi v0 arg1
  let c0_i32 : BitVec 32 := 0#32
  let c0_i32_0 : BitVec 32 := 0#32
  ![c0_i32.toNat, v1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8x2x128x128 : Shape := ⟨4, ![8, 2, 128, 128]⟩
abbrev S1024x2048 : Shape := ⟨2, ![1024, 2048]⟩
abbrev S1024x8x2x128 : Shape := ⟨4, ![1024, 8, 2, 128]⟩
abbrev S8x2x128x1024 : Shape := ⟨4, ![8, 2, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2x128x128, .f32⟩
  | .hbm, ⟨1, _⟩ => ⟨S1024x2048, .f32⟩
  | .hbm, ⟨2, _⟩ => ⟨S1024x8x2x128, .f32⟩
  | .hbm, ⟨3, _⟩ => ⟨S8x2x128x1024, .f32⟩
  | _, _ => ⟨S8x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Softmax.lean ====
/- The mathematics of one row of attention over the extended reals, with no program in sight: a softmax whose masked
   scores are `⊥`, dividing before or after the sum over the keys, and a sum over a row of 64 columns cut down to the 32
   that are not masked. -/
module

public import Idealize.ShloMosaic.PureOps.Ideal
public import Idealize.ShloMosaic.PureOps.Ideal.Laws

@[expose] public section

noncomputable section

namespace Cert.Softmax

open Idealize.ShloMosaic

/-- A real number that is not negative distributes over a sum of extended reals, from the right. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Dividing by a positive real is multiplying by a real that is not negative. -/
theorem div_eq_mul_coe {d : ℝ} (hd : 0 < d) (x : EReal) : Ideal.div x (d : EReal) = x * ((d⁻¹ : ℝ) : EReal) := by
  have : (d : EReal) ≠ 0 := by exact_mod_cast hd.ne'
  rw [Ideal.div, if_neg this, EReal.coe_inv]

/-- Weights divided before they meet the values, or their weighted sum divided once: the same, for any values. -/
theorem sum_div_mul {ι : Type} (s : Finset ι) (p v : ι → EReal) {d : ℝ} (hd : 0 < d) :
    ∑ i ∈ s, Ideal.div (p i) (d : EReal) * v i = Ideal.div (∑ i ∈ s, p i * v i) (d : EReal) := by
  rw [div_eq_mul_coe hd, sum_mul_coe s _ _ (inv_nonneg.mpr hd.le)]
  refine Finset.sum_congr rfl fun i _ => ?_
  rw [div_eq_mul_coe hd, mul_right_comm]

/-- The largest of finitely many scores, none of them `⊤` and one of them real, is real. -/
theorem fold_max_real {ι : Type} (s : Finset ι) (f : ι → EReal) (hf : ∀ i ∈ s, f i ≠ ⊤)
    (i₀ : ι) (h₀ : i₀ ∈ s) (hi : f i₀ ≠ ⊥) : ∃ M : ℝ, s.fold max ⊥ f = M := by
  have hle : f i₀ ≤ s.fold max ⊥ f := (Finset.le_fold_max (f i₀)).mpr (Or.inr ⟨i₀, h₀, le_rfl⟩)
  have hne : s.fold max ⊥ f ≠ ⊤ := by
    refine ne_of_lt ((Finset.fold_max_lt ⊤).mpr ⟨bot_lt_top, fun i hi => lt_top_iff_ne_top.mpr (hf i hi)⟩)
  have hnb : s.fold max ⊥ f ≠ ⊥ := fun h => hi (le_bot_iff.mp (h ▸ hle))
  exact ⟨(s.fold max ⊥ f).toReal, (EReal.coe_toReal hne hnb).symm⟩

/-- The exponential of a score that is not `⊤`, against a real maximum, is a real number that is not negative, positive
    where the score is real and zero where it is `⊥`. -/
theorem exp_sub_real (x : EReal) (hx : x ≠ ⊤) (M : ℝ) :
    ∃ e : ℝ, 0 ≤ e ∧ Ideal.exp (x - (M : EReal)) = e ∧ (x ≠ ⊥ → 0 < e) ∧ (x = ⊥ → e = 0) := by
  induction x with
  | top => exact absurd rfl hx
  | bot => exact ⟨0, le_rfl, by rw [EReal.bot_sub]; rfl, fun h => absurd rfl h, fun _ => rfl⟩
  | coe x =>
    refine ⟨Real.exp (x - M), (Real.exp_pos _).le, ?_, fun _ => Real.exp_pos _, fun h => absurd h (EReal.coe_ne_bot x)⟩
    rw [← EReal.coe_sub]; rfl

/-- A masked score's exponential is zero. -/
theorem exp_bot_sub (M : ℝ) : Ideal.exp ((⊥ : EReal) - (M : EReal)) = 0 := by
  rw [EReal.bot_sub]; rfl

/-- The sum of the exponentials is a positive real. -/
theorem sum_exp_real {ι : Type} (s : Finset ι) (f : ι → EReal) (hf : ∀ i ∈ s, f i ≠ ⊤)
    (i₀ : ι) (h₀ : i₀ ∈ s) (hi : f i₀ ≠ ⊥) (M : ℝ) :
    ∃ d : ℝ, 0 < d ∧ ∑ i ∈ s, Ideal.exp (f i - (M : EReal)) = d := by
  classical
  have key : ∀ t : Finset ι, t ⊆ s → ∃ d : ℝ, 0 ≤ d ∧ ∑ i ∈ t, Ideal.exp (f i - (M : EReal)) = d := by
    intro t
    induction t using Finset.induction_on with
    | empty => exact fun _ => ⟨0, le_rfl, by simp⟩
    | insert a t ha ih =>
      intro hs
      obtain ⟨d, hd, he⟩ := ih (fun x hx => hs (Finset.mem_insert_of_mem hx))
      obtain ⟨e, h0, h1, -⟩ := exp_sub_real (f a) (hf a (hs (Finset.mem_insert_self a t))) M
      exact ⟨e + d, add_nonneg h0 hd, by rw [Finset.sum_insert ha, he, h1, EReal.coe_add]⟩
  obtain ⟨d, hd, he⟩ := key (s.erase i₀) (Finset.erase_subset _ _)
  obtain ⟨e, h0, h1, h2, -⟩ := exp_sub_real (f i₀) (hf i₀ h₀) M
  exact ⟨e + d, add_pos_of_pos_of_nonneg (h2 hi) hd, by rw [← Finset.add_sum_erase s _ h₀, he, h1, EReal.coe_add]⟩

/-- A sum over 64 columns of a function that is zero outside the 32 columns from `b` on is the sum over those 32. -/
theorem sum_window (f : Fin 64 → EReal) (b : ℕ) (hb : b + 32 ≤ 64)
    (hf : ∀ c : Fin 64, (c : ℕ) < b ∨ b + 32 ≤ (c : ℕ) → f c = 0) :
    ∑ c : Fin 64, f c = ∑ k : Fin 32, f ⟨b + k, by omega⟩ := by
  let e : Fin 32 ↪ Fin 64 := ⟨fun k => ⟨b + k, by omega⟩, fun x y h => by simpa [Fin.ext_iff] using h⟩
  have : ∑ k : Fin 32, f ⟨b + k, by omega⟩ = ∑ c ∈ Finset.univ.map e, f c := by rw [Finset.sum_map]; rfl
  rw [this]
  refine (Finset.sum_subset (Finset.subset_univ _) fun c _ hc => hf c ?_).symm
  by_contra hcon
  refine hc (Finset.mem_map.mpr ⟨⟨(c : ℕ) - b, by omega⟩, Finset.mem_univ _, ?_⟩)
  apply Fin.ext; show b + (c - b) = (c : ℕ); omega

/-- The largest score of a row whose scores outside the 32 columns from `b` on are all `⊥`. -/
theorem max_window {κ : Type} [Fintype κ] (f : κ → Fin 64 → EReal) (b : ℕ) (hb : b + 32 ≤ 64)
    (hf : ∀ i, ∀ c : Fin 64, (c : ℕ) < b ∨ b + 32 ≤ (c : ℕ) → f i c = ⊥) :
    (Finset.univ : Finset (κ × Fin 64)).fold max ⊥ (fun p => f p.1 p.2)
      = (Finset.univ : Finset (κ × Fin 32)).fold max ⊥ (fun p => f p.1 ⟨b + p.2, by omega⟩) := by
  refine le_antisymm ((Finset.fold_max_le _).mpr ⟨bot_le, fun p _ => ?_⟩) ((Finset.fold_max_le _).mpr ⟨bot_le, fun p _ => ?_⟩)
  · by_cases h : (p.2 : ℕ) < b ∨ b + 32 ≤ (p.2 : ℕ)
    · rw [hf _ _ h]; exact bot_le
    · refine (Finset.le_fold_max _).mpr (Or.inr ⟨(p.1, ⟨(p.2 : ℕ) - b, by omega⟩), Finset.mem_univ _, le_of_eq ?_⟩)
      congr 1; apply Fin.ext; show (p.2 : ℕ) = b + (p.2 - b); omega
  · exact (Finset.le_fold_max _).mpr (Or.inr ⟨(p.1, ⟨b + p.2, by omega⟩), Finset.mem_univ _, le_rfl⟩)

/-- One row of attention over scores `s` and values `v`, the keys numbered by `ι`: the weights' sum is divided once, at
    the end. -/
def row {ι : Type} [Fintype ι] (s v : ι → EReal) : EReal :=
  Ideal.div (∑ i, Ideal.exp (s i - Finset.univ.fold max ⊥ s) * v i)
    (∑ i, Ideal.exp (s i - Finset.univ.fold max ⊥ s))

/-- The same row, its weights divided before they meet the values. -/
def rowNormalized {ι : Type} [Fintype ι] (s v : ι → EReal) : EReal :=
  ∑ i, Ideal.div (Ideal.exp (s i - Finset.univ.fold max ⊥ s)) (∑ i, Ideal.exp (s i - Finset.univ.fold max ⊥ s)) * v i

/-- A row over 8 × 64 keys, whose scores outside the 32 columns from `b` on are `⊥`, none is `⊤` and one is real, is the
    normalized row over the 8 × 32 keys of those columns, whatever the values. -/
theorem row_eq_rowNormalized (s v : Fin 8 → Fin 64 → EReal) (b : ℕ) (hb : b + 32 ≤ 64)
    (hs : ∀ i, ∀ c : Fin 64, (c : ℕ) < b ∨ b + 32 ≤ (c : ℕ) → s i c = ⊥) (ht : ∀ i c, s i c ≠ ⊤)
    (i₀ : Fin 8) (c₀ : Fin 64) (h₀ : s i₀ c₀ ≠ ⊥) :
    row (ι := Fin 8 × Fin 64) (fun p => s p.1 p.2) (fun p => v p.1 p.2)
      = rowNormalized (ι := Fin 8 × Fin 32) (fun p => s p.1 ⟨b + p.2, by omega⟩) (fun p => v p.1 ⟨b + p.2, by omega⟩) := by
  obtain ⟨M, hM⟩ := fold_max_real (Finset.univ : Finset (Fin 8 × Fin 64)) (fun p => s p.1 p.2) (fun p _ => ht _ _)
    (i₀, c₀) (Finset.mem_univ _) h₀
  obtain ⟨d, hd, hD⟩ := sum_exp_real (Finset.univ : Finset (Fin 8 × Fin 64)) (fun p => s p.1 p.2) (fun p _ => ht _ _)
    (i₀, c₀) (Finset.mem_univ _) h₀ M
  have hM' := (max_window s b hb hs).symm.trans hM
  have cut : ∀ g : Fin 8 → Fin 64 → EReal, (∀ i c, s i c = ⊥ → g i c = 0) →
      ∑ p : Fin 8 × Fin 64, g p.1 p.2 = ∑ p : Fin 8 × Fin 32, g p.1 ⟨b + p.2, by omega⟩ := by
    intro g hg
    rw [Fintype.sum_prod_type, Fintype.sum_prod_type]
    exact Finset.sum_congr rfl fun i _ => sum_window (g i) b hb fun c hc => hg i c (hs i c hc)
  have hz : ∀ i c, s i c = ⊥ → Ideal.exp (s i c - (M : EReal)) = 0 := fun i c h => by rw [h, exp_bot_sub]
  have hD' := (cut (fun i c => Ideal.exp (s i c - (M : EReal))) hz).symm.trans hD
  unfold row rowNormalized
  simp only [hM, hM', hD, hD']
  rw [sum_div_mul _ _ _ hd]
  congr 1
  exact cut (fun i c => Ideal.exp (s i c - (M : EReal)) * v i c) fun i c h => by rw [hz i c h, zero_mul]

end Cert.Softmax

end
-- ==== Proof.KernelBlock.lean ====
module
public import proofs.«01_k».proof.Proof.Gen.KernelIdeal.Skeleton
public import proofs.«01_k».proof.Proof.Softmax
public import Idealize.ShloMosaic.Lib.Pointwise
@[expose] public section
set_option maxRecDepth 16384
noncomputable section
open Idealize.ShloMosaic
namespace Cert.KernelIdeal.Value
open Cert.KernelIdeal Cert.KernelIdeal.Gen Cert.Softmax

/-- One query's attention over the 512 keys of its 8 rows, read off the blocks' rows: the query `qb` against the keys
    `kb` in the 64 lanes of the head that lane `l` lies in, the bias row `bias`, the values `vb` in lane `l`. -/
def attend (qb : Fin 128 → EReal) (kb vb : Fin 512 → Fin 128 → EReal) (bias : Fin 2 → Fin 512 → EReal) (l : Fin 128) : EReal :=
  row (ι := Fin 512)
    (fun key => ∑ d : Fin 64, qb ⟨(l : ℕ) / 64 * 64 + d, by omega⟩ * kb key ⟨(l : ℕ) / 64 * 64 + d, by omega⟩
      + bias ⟨(l : ℕ) / 64, by omega⟩ key)
    (fun key => vb key l)

/-- A choice by the lane mask is a choice by the lane's number. -/
theorem select_lane {α : Type} (n : ℕ) (hn : n < 128) (a b : α) :
    Scalar.select (IntOp.cmpi .slt (BitVec.ofNat 32 n) 64#32) a b = if n < 64 then a else b := by
  have key : ∀ k < 128, IntOp.cmpi .slt (BitVec.ofNat 32 k) 64#32 = if k < 64 then 1#1 else 0#1 := by decide
  rw [key n hn]; split <;> rfl

/-- A sum over 128 lanes that keeps the first 64. -/
theorem sum_low (f : Fin 128 → EReal) :
    ∑ x : Fin 128, Scalar.select (IntOp.cmpi .slt (BitVec.ofNat 32 (x : ℕ)) 64#32) (f x) 0
      = ∑ d : Fin 64, f ⟨d, by omega⟩ := by
  simp only [select_lane _ (Fin.isLt _)]
  rw [Fin.sum_univ_add (a := 64) (b := 64) (M := EReal)]
  rw [Finset.sum_eq_zero (s := Finset.univ) (f := fun i : Fin 64 => if ((Fin.natAdd 64 i : Fin 128) : ℕ) < 64 then f (Fin.natAdd 64 i) else 0)
    fun i _ => if_neg (by simp), add_zero]
  exact Finset.sum_congr rfl fun d _ => if_pos d.isLt

/-- A sum over 128 lanes that keeps the last 64. -/
theorem sum_high (f : Fin 128 → EReal) :
    ∑ x : Fin 128, Scalar.select (IntOp.cmpi .slt (BitVec.ofNat 32 (x : ℕ)) 64#32) 0 (f x)
      = ∑ d : Fin 64, f ⟨64 + d, by omega⟩ := by
  simp only [select_lane _ (Fin.isLt _)]
  rw [Fin.sum_univ_add (a := 64) (b := 64) (M := EReal)]
  rw [Finset.sum_eq_zero (s := Finset.univ) (f := fun i : Fin 64 => if ((Fin.castAdd 64 i : Fin 128) : ℕ) < 64 then 0 else f (Fin.castAdd 64 i))
    fun i _ => if_pos i.isLt, zero_add]
  exact Finset.sum_congr rfl fun d _ => if_neg (by simp)

/-- The word of minus infinity reads as the bottom element. -/
theorem ofBits_bot : Ideal.ofBits FTy.f32 4286578688#32 = ⊥ := by simp [Ideal.ofBits, Ideal.ieee]

/-- A middle row's stored value: the attention over its own 512 keys. -/
theorem loop_pay (kb vb : Vec Ideal S1x512x128 .bf16) (qb : Vec Ideal S1x64x128 .bf16) (bias : Vec Ideal S1x1x128x512 .f32)
    (q : Fin 64) (l : Fin 128) :
    k0_pay1 (F := Ideal) k0_pay3 (k0_pay2 (F := Ideal) k0_pay3 kb vb qb bias) (ix3 0 q l)
      = attend (fun l => qb (ix3 0 q l)) (fun k l => kb (ix3 0 k l)) (fun k l => vb (ix3 0 k l))
        (fun h key => bias (ix4 0 0 ⟨(h : ℕ) * 64 + q, by omega⟩ key)) l := by
  pointwise [k0_pay1, k0_pay2, k0_pay3]
  rw [select_lane _ l.isLt]
  simp only [ofBits_bot, sum_low, sum_high]
  unfold attend row
  split
  · have h : (l : ℕ) / 64 = 0 := by omega
    simp only [h, Nat.zero_mul, Nat.zero_add]
  · have h : (l : ℕ) / 64 = 1 := by omega
    simp only [h, Nat.one_mul]

/-- The top five rows' scores, before the softmax: 640 query rows (two masked copies of 64 queries per row) by 512 keys. -/
def topScores (v2 : IVec S64x128 1) (v4 : FVec Ideal S512x128 .bf16) (v10 v11 : FVec Ideal S64x128 .bf16) (v13 : FVec Ideal S128x512 .f32) (v17 v18 : FVec Ideal S64x128 .bf16) (v20 : FVec Ideal S128x512 .f32) (v24 v25 : FVec Ideal S64x128 .bf16) (v26 : Vec Ideal S1x1x128x512 .f32) (v28 : Vec Ideal S1x64x128 .bf16) (v33 : Vec Ideal S1x1x128x512 .f32) (v35 : Vec Ideal S1x64x128 .bf16) (v40 : Vec Ideal S1x1x128x512 .f32) : FVec Ideal S640x512 .f32 :=
  addf (matmul dot_S640x128_S512x128_S640x512_1_1_0_0_n_n none
      (concatenate S640x128 0 [⟨S64x128, v10⟩, ⟨S64x128, v11⟩, ⟨S64x128, v17⟩, ⟨S64x128, v18⟩, ⟨S64x128, v24⟩, ⟨S64x128, v25⟩,
        ⟨S64x128, select v2 (shapeCast S64x128 v28 shapeCasts_S1x64x128_S64x128) (broadcast S64x128 (Scalar.ofBits .bf16 0x0000#16))⟩,
        ⟨S64x128, select v2 (broadcast S64x128 (Scalar.ofBits .bf16 0x0000#16)) (shapeCast S64x128 v28 shapeCasts_S1x64x128_S64x128)⟩,
        ⟨S64x128, select v2 (shapeCast S64x128 v35 shapeCasts_S1x64x128_S64x128) (broadcast S64x128 (Scalar.ofBits .bf16 0x0000#16))⟩,
        ⟨S64x128, select v2 (broadcast S64x128 (Scalar.ofBits .bf16 0x0000#16)) (shapeCast S64x128 v35 shapeCasts_S1x64x128_S64x128)⟩]
        concatenates_S64x128_S64x128_S64x128_S64x128_S64x128_S64x128_S64x128_S64x128_S64x128_S64x128_S640x128_d0)
      v4 (constant S640x512 .f32 0x00000000#32))
    (concatenate S640x512 0 [⟨S128x512, v13⟩, ⟨S128x512, v20⟩, ⟨S128x512, shapeCast S128x512 v26 shapeCasts_S1x1x128x512_S128x512⟩,
      ⟨S128x512, shapeCast S128x512 v33 shapeCasts_S1x1x128x512_S128x512⟩, ⟨S128x512, shapeCast S128x512 v40 shapeCasts_S1x1x128x512_S128x512⟩]
      concatenates_S128x512_S128x512_S128x512_S128x512_S128x512_S640x512_d0)

/-- The softmax of score rows against the values, the quotient taken last. -/
def topSoft (v6 : FVec Ideal S512x128 .bf16) (v45 : FVec Ideal S640x512 .f32) : FVec Ideal S640x128 .f32 :=
  have v50 : FVec Ideal S640x512 .f32 := exp (subf v45 (broadcastTo S640x512 (shapeCast S640x1
    (multiReduction .maximumf [1] S640 v45 0xFF800000#32 reduces_S640x512_S640 (.inl rfl) rfl) shapeCasts_S640_S640x1) broadcasts_S640x1_S640x512))
  divf (matmul dot_S640x512_S512x128_S640x128_1_0_0_1_n_n none (truncf .bf16 v50 bitsLt_bf16_f32) v6 (constant S640x128 .f32 0x00000000#32))
    (broadcastTo S640x128 (shapeCast S640x1 (multiReduction .add [1] S640 v50 0x00000000#32 reduces_S640x512_S640 (.inl rfl) rfl)
      shapeCasts_S640_S640x1) broadcasts_S640x1_S640x128)

/-- The top rows' result is the softmax of their scores. -/
theorem top_split (v2 : IVec S64x128 1) (v4 : FVec Ideal S512x128 .bf16) (v10 v11 : FVec Ideal S64x128 .bf16) (v13 : FVec Ideal S128x512 .f32) (v17 v18 : FVec Ideal S64x128 .bf16) (v20 : FVec Ideal S128x512 .f32) (v24 v25 : FVec Ideal S64x128 .bf16) (v26 : Vec Ideal S1x1x128x512 .f32) (v28 : Vec Ideal S1x64x128 .bf16) (v33 : Vec Ideal S1x1x128x512 .f32) (v35 : Vec Ideal S1x64x128 .bf16) (v40 : Vec Ideal S1x1x128x512 .f32) (v6 : FVec Ideal S512x128 .bf16) :
    k0_pay20 (F := Ideal) v2 v4 v6 v10 v11 v13 v17 v18 v20 v24 v25 v26 v28 v33 v35 v40
      = topSoft v6 (topScores v2 v4 v10 v11 v13 v17 v18 v20 v24 v25 v26 v28 v33 v35 v40) := rfl

/-- A row of the top rows' softmax. -/
theorem top_soft (v6 : FVec Ideal S512x128 .bf16) (v45 : FVec Ideal S640x512 .f32) (n : Fin 640) (l : Fin 128) :
    topSoft v6 v45 (ix2 n l) = row (ι := Fin 512) (fun key => v45 (ix2 n key)) (fun key => v6 (ix2 key l)) := by
  pointwise [topSoft]
  simp only [ofBits_bot]
  rfl

/-- A row of the bottom rows' softmax. -/
theorem bottom_soft (v95 : FVec Ideal S512x128 .bf16) (v127 : FVec Ideal S512x512 .f32) (n : Fin 512) (l : Fin 128) :
    k0_pay30 (F := Ideal) v95 v127 (ix2 n l) = row (ι := Fin 512) (fun key => v127 (ix2 n key)) (fun key => v95 (ix2 key l)) := by
  pointwise [k0_pay30]
  simp only [ofBits_bot]
  rfl

/-- A masked factor times another is the masked product. -/
theorem select_mul (c : BitVec 1) (a b : EReal) : Scalar.select c a 0 * b = Scalar.select c (a * b) 0 := by
  unfold Scalar.select; split <;> simp

/-- The same, with the zero on the other side. -/
theorem select_mul' (c : BitVec 1) (a b : EReal) : Scalar.select c 0 a * b = Scalar.select c 0 (a * b) := by
  unfold Scalar.select; split <;> simp

/-- The two heads' rows of an attention, joined by lane. -/
theorem attend_eq (qb : Fin 128 → EReal) (kb vb : Fin 512 → Fin 128 → EReal) (bias : Fin 2 → Fin 512 → EReal) (l : Fin 128) :
    (if (l : ℕ) < 64 then
        row (ι := Fin 512) (fun key => ∑ d : Fin 64, qb ⟨d, by omega⟩ * kb key ⟨d, by omega⟩ + bias 0 key) (fun key => vb key l)
      else row (ι := Fin 512) (fun key => ∑ d : Fin 64, qb ⟨64 + d, by omega⟩ * kb key ⟨64 + d, by omega⟩ + bias 1 key) (fun key => vb key l))
      = attend qb kb vb bias l := by
  unfold attend
  split
  · have h : (l : ℕ) / 64 = 0 := by omega
    simp only [h, Nat.zero_mul, Nat.zero_add]
    rfl
  · have h : (l : ℕ) / 64 = 1 := by omega
    simp only [h, Nat.one_mul]
    rfl

/-- Top row 0's scores for head 0 of the pair. -/
theorem top_scores0_0 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨0 + q, by omega⟩ key)
      = (∑ d : Fin 64, q0 (ix3 0 q ⟨d, by omega⟩) * kb (ix3 0 key ⟨d, by omega⟩)) + b0 (ix4 0 0 ⟨0 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos, select_mul, select_mul', sum_low]

/-- Top row 0's scores for head 1 of the pair. -/
theorem top_scores0_1 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨64 + q, by omega⟩ key)
      = (∑ d : Fin 64, q0 (ix3 0 q ⟨64 + d, by omega⟩) * kb (ix3 0 key ⟨64 + d, by omega⟩)) + b0 (ix4 0 0 ⟨64 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 64 + (q : ℕ) - 64 = q by omega, Fin.eta, select_mul, select_mul', sum_high]

/-- Top row 0's stored value: its own attention, read off the five rows' joint products. -/
theorem top_pay0 (kb vb : Vec Ideal S1x512x128 .bf16) (q0 q1 q2 q3 q4 : Vec Ideal S1x64x128 .bf16)
    (b0 b1 b2 b3 b4 : Vec Ideal S1x1x128x512 .f32) (q : Fin 64) (l : Fin 128) :
    k0_pay21 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix3 0 q l)
      = attend (fun l => q0 (ix3 0 q l)) (fun k l => kb (ix3 0 k l)) (fun k l => vb (ix3 0 k l))
        (fun h key => b0 (ix4 0 0 ⟨(h : ℕ) * 64 + q, by omega⟩ key)) l := by
  rw [← attend_eq]
  have hs : k0_pay21 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix3 0 q l)
      = if (l : ℕ) < 64 then k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨0 + q, by omega⟩ l)
        else k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨64 + q, by omega⟩ l) := by
    pointwise [k0_pay3, k0_pay21]
    rw [select_lane _ l.isLt]
  rw [hs, top_split, top_soft, top_soft]
  simp only [top_scores0_0, top_scores0_1]
  have hv : ∀ key : Fin 512, k0_pay5 (F := Ideal) vb (ix2 key l) = vb (ix3 0 key l) := fun key => by pointwise [k0_pay5]
  simp only [hv]
  rfl

/-- Top row 1's scores for head 0 of the pair. -/
theorem top_scores1_0 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨128 + q, by omega⟩ key)
      = (∑ d : Fin 64, q1 (ix3 0 q ⟨d, by omega⟩) * kb (ix3 0 key ⟨d, by omega⟩)) + b1 (ix4 0 0 ⟨0 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 128 + (q : ℕ) - 64 - 64 = q by omega, Fin.eta,
    show 128 + (q : ℕ) - 128 = q by omega, select_mul, select_mul', sum_low]

/-- Top row 1's scores for head 1 of the pair. -/
theorem top_scores1_1 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨192 + q, by omega⟩ key)
      = (∑ d : Fin 64, q1 (ix3 0 q ⟨64 + d, by omega⟩) * kb (ix3 0 key ⟨64 + d, by omega⟩)) + b1 (ix4 0 0 ⟨64 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 192 + (q : ℕ) - 64 - 64 - 64 = q by omega, Fin.eta,
    show 192 + (q : ℕ) - 128 = 64 + q by omega, select_mul, select_mul', sum_high]

/-- Top row 1's stored value: its own attention, read off the five rows' joint products. -/
theorem top_pay1 (kb vb : Vec Ideal S1x512x128 .bf16) (q0 q1 q2 q3 q4 : Vec Ideal S1x64x128 .bf16)
    (b0 b1 b2 b3 b4 : Vec Ideal S1x1x128x512 .f32) (q : Fin 64) (l : Fin 128) :
    k0_pay22 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = attend (fun l => q1 (ix3 0 q l)) (fun k l => kb (ix3 0 k l)) (fun k l => vb (ix3 0 k l))
        (fun h key => b1 (ix4 0 0 ⟨(h : ℕ) * 64 + q, by omega⟩ key)) l := by
  rw [← attend_eq]
  have hs : k0_pay22 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = if (l : ℕ) < 64 then k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨128 + q, by omega⟩ l)
        else k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨192 + q, by omega⟩ l) := by
    pointwise [k0_pay3, k0_pay22]
    rw [select_lane _ l.isLt]
  rw [hs, top_split, top_soft, top_soft]
  simp only [top_scores1_0, top_scores1_1]
  have hv : ∀ key : Fin 512, k0_pay5 (F := Ideal) vb (ix2 key l) = vb (ix3 0 key l) := fun key => by pointwise [k0_pay5]
  simp only [hv]
  rfl

/-- Top row 2's scores for head 0 of the pair. -/
theorem top_scores2_0 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨256 + q, by omega⟩ key)
      = (∑ d : Fin 64, q2 (ix3 0 q ⟨d, by omega⟩) * kb (ix3 0 key ⟨d, by omega⟩)) + b2 (ix4 0 0 ⟨0 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 256 + (q : ℕ) - 64 - 64 - 64 - 64 = q by omega, Fin.eta,
    show 256 + (q : ℕ) - 128 - 128 = q by omega, select_mul, select_mul', sum_low]

/-- Top row 2's scores for head 1 of the pair. -/
theorem top_scores2_1 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨320 + q, by omega⟩ key)
      = (∑ d : Fin 64, q2 (ix3 0 q ⟨64 + d, by omega⟩) * kb (ix3 0 key ⟨64 + d, by omega⟩)) + b2 (ix4 0 0 ⟨64 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 320 + (q : ℕ) - 64 - 64 - 64 - 64 - 64 = q by omega, Fin.eta,
    show 320 + (q : ℕ) - 128 - 128 = 64 + q by omega, select_mul, select_mul', sum_high]

/-- Top row 2's stored value: its own attention, read off the five rows' joint products. -/
theorem top_pay2 (kb vb : Vec Ideal S1x512x128 .bf16) (q0 q1 q2 q3 q4 : Vec Ideal S1x64x128 .bf16)
    (b0 b1 b2 b3 b4 : Vec Ideal S1x1x128x512 .f32) (q : Fin 64) (l : Fin 128) :
    k0_pay23 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = attend (fun l => q2 (ix3 0 q l)) (fun k l => kb (ix3 0 k l)) (fun k l => vb (ix3 0 k l))
        (fun h key => b2 (ix4 0 0 ⟨(h : ℕ) * 64 + q, by omega⟩ key)) l := by
  rw [← attend_eq]
  have hs : k0_pay23 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = if (l : ℕ) < 64 then k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨256 + q, by omega⟩ l)
        else k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨320 + q, by omega⟩ l) := by
    pointwise [k0_pay3, k0_pay23]
    rw [select_lane _ l.isLt]
  rw [hs, top_split, top_soft, top_soft]
  simp only [top_scores2_0, top_scores2_1]
  have hv : ∀ key : Fin 512, k0_pay5 (F := Ideal) vb (ix2 key l) = vb (ix3 0 key l) := fun key => by pointwise [k0_pay5]
  simp only [hv]
  rfl

/-- Top row 3's scores for head 0 of the pair. -/
theorem top_scores3_0 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨384 + q, by omega⟩ key)
      = (∑ d : Fin 64, q3 (ix3 0 q ⟨d, by omega⟩) * kb (ix3 0 key ⟨d, by omega⟩)) + b3 (ix4 0 0 ⟨0 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 384 + (q : ℕ) - 64 - 64 - 64 - 64 - 64 - 64 = q by omega, Fin.eta,
    show 384 + (q : ℕ) - 128 - 128 - 128 = q by omega, select_mul, select_mul', sum_low]

/-- Top row 3's scores for head 1 of the pair. -/
theorem top_scores3_1 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨448 + q, by omega⟩ key)
      = (∑ d : Fin 64, q3 (ix3 0 q ⟨64 + d, by omega⟩) * kb (ix3 0 key ⟨64 + d, by omega⟩)) + b3 (ix4 0 0 ⟨64 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 448 + (q : ℕ) - 64 - 64 - 64 - 64 - 64 - 64 - 64 = q by omega, Fin.eta,
    show 448 + (q : ℕ) - 128 - 128 - 128 = 64 + q by omega, select_mul, select_mul', sum_high]

/-- Top row 3's stored value: its own attention, read off the five rows' joint products. -/
theorem top_pay3 (kb vb : Vec Ideal S1x512x128 .bf16) (q0 q1 q2 q3 q4 : Vec Ideal S1x64x128 .bf16)
    (b0 b1 b2 b3 b4 : Vec Ideal S1x1x128x512 .f32) (q : Fin 64) (l : Fin 128) :
    k0_pay24 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = attend (fun l => q3 (ix3 0 q l)) (fun k l => kb (ix3 0 k l)) (fun k l => vb (ix3 0 k l))
        (fun h key => b3 (ix4 0 0 ⟨(h : ℕ) * 64 + q, by omega⟩ key)) l := by
  rw [← attend_eq]
  have hs : k0_pay24 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = if (l : ℕ) < 64 then k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨384 + q, by omega⟩ l)
        else k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨448 + q, by omega⟩ l) := by
    pointwise [k0_pay3, k0_pay24]
    rw [select_lane _ l.isLt]
  rw [hs, top_split, top_soft, top_soft]
  simp only [top_scores3_0, top_scores3_1]
  have hv : ∀ key : Fin 512, k0_pay5 (F := Ideal) vb (ix2 key l) = vb (ix3 0 key l) := fun key => by pointwise [k0_pay5]
  simp only [hv]
  rfl

/-- Top row 4's scores for head 0 of the pair. -/
theorem top_scores4_0 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨512 + q, by omega⟩ key)
      = (∑ d : Fin 64, q4 (ix3 0 q ⟨d, by omega⟩) * kb (ix3 0 key ⟨d, by omega⟩)) + b4 (ix4 0 0 ⟨0 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 512 + (q : ℕ) - 64 - 64 - 64 - 64 - 64 - 64 - 64 - 64 = q by omega, Fin.eta,
    show 512 + (q : ℕ) - 128 - 128 - 128 - 128 = q by omega, select_mul, select_mul', sum_low]

/-- Top row 4's scores for head 1 of the pair. -/
theorem top_scores4_1 (kb : Vec Ideal S1x512x128 .bf16) (q0 q1 q2 q3 q4 : Vec Ideal S1x64x128 .bf16)
    (b0 b1 b2 b3 b4 : Vec Ideal S1x1x128x512 .f32) (q : Fin 64) (key : Fin 512) :
    topScores k0_pay3 (k0_pay4 kb) (k0_pay8 q0) (k0_pay9 q0) (k0_pay10 b0) (k0_pay13 q1) (k0_pay14 q1) (k0_pay15 b1) (k0_pay18 q2)
      (k0_pay19 q2) b2 q3 b3 q4 b4 (ix2 ⟨576 + q, by omega⟩ key)
      = (∑ d : Fin 64, q4 (ix3 0 q ⟨64 + d, by omega⟩) * kb (ix3 0 key ⟨64 + d, by omega⟩)) + b4 (ix4 0 0 ⟨64 + q, by omega⟩ key) := by
  pointwise [k0_pay3, k0_pay4, k0_pay6, k0_pay7, k0_pay8, k0_pay9, k0_pay10, k0_pay11, k0_pay12, k0_pay13, k0_pay14,
    k0_pay15, k0_pay16, k0_pay17, k0_pay18, k0_pay19, topScores]
  simp (disch := omega) only [dif_neg, dif_pos,
    show 576 + (q : ℕ) - 64 - 64 - 64 - 64 - 64 - 64 - 64 - 64 - 64 = q by omega, Fin.eta,
    show 576 + (q : ℕ) - 128 - 128 - 128 - 128 = 64 + q by omega, select_mul, select_mul', sum_high]

/-- Top row 4's stored value: its own attention, read off the five rows' joint products. -/
theorem top_pay4 (kb vb : Vec Ideal S1x512x128 .bf16) (q0 q1 q2 q3 q4 : Vec Ideal S1x64x128 .bf16)
    (b0 b1 b2 b3 b4 : Vec Ideal S1x1x128x512 .f32) (q : Fin 64) (l : Fin 128) :
    k0_pay25 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = attend (fun l => q4 (ix3 0 q l)) (fun k l => kb (ix3 0 k l)) (fun k l => vb (ix3 0 k l))
        (fun h key => b4 (ix4 0 0 ⟨(h : ℕ) * 64 + q, by omega⟩ key)) l := by
  rw [← attend_eq]
  have hs : k0_pay25 (F := Ideal) k0_pay3 (k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4) (ix3 0 q l)
      = if (l : ℕ) < 64 then k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨512 + q, by omega⟩ l)
        else k0_pay20 (F := Ideal) k0_pay3 (k0_pay4 kb) (k0_pay5 vb) (k0_pay8 q0) (k0_pay9 q0) (k0_pay10 b0) (k0_pay13 q1) (k0_pay14 q1) (k0_pay15 b1) (k0_pay18 q2)
      (k0_pay19 q2) b2 q3 b3 q4 b4 (ix2 ⟨576 + q, by omega⟩ l) := by
    pointwise [k0_pay3, k0_pay25]
    rw [select_lane _ l.isLt]
  rw [hs, top_split, top_soft, top_soft]
  simp only [top_scores4_0, top_scores4_1]
  have hv : ∀ key : Fin 512, k0_pay5 (F := Ideal) vb (ix2 key l) = vb (ix3 0 key l) := fun key => by pointwise [k0_pay5]
  simp only [hv]
  rfl

/-- Bottom row 28's scores for head 0 of the pair. -/
theorem bottom_scores0_0 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨0 + q, by omega⟩ key)
      = (∑ d : Fin 64, q0 (ix3 0 q ⟨d, by omega⟩) * kb (ix3 0 key ⟨d, by omega⟩)) + b0 (ix4 0 0 ⟨0 + q, by omega⟩ key) := by
  pointwise [k0_pay3, k0_pay26, k0_pay28, k0_pay29]
  simp (disch := omega) only [dif_neg, dif_pos, select_mul, select_mul', sum_low]

/-- Bottom row 28's scores for head 1 of the pair. -/
theorem bottom_scores0_1 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨64 + q, by omega⟩ key)
      = (∑ d : Fin 64, q0 (ix3 0 q ⟨64 + d, by omega⟩) * kb (ix3 0 key ⟨64 + d, by omega⟩)) + b0 (ix4 0 0 ⟨64 + q, by omega⟩ key) := by
  pointwise [k0_pay3, k0_pay26, k0_pay28, k0_pay29]
  simp (disch := omega) only [dif_neg, dif_pos,
    show 64 + (q : ℕ) - 64 = q by omega, Fin.eta, select_mul, select_mul', sum_high]

/-- Bottom row 28's stored value: its own attention, read off the four rows' joint products. -/
theorem bottom_pay0 (kb vb : Vec Ideal S1x512x128 .bf16) (q0 q1 q2 q3 : Vec Ideal S1x64x128 .bf16)
    (b0 b1 b2 b3 : Vec Ideal S1x1x128x512 .f32) (q : Fin 64) (l : Fin 128) :
    k0_pay31 (F := Ideal) k0_pay3 (k0_pay27 vb) (k0_pay29 (F := Ideal) k0_pay3 (k0_pay26 kb) (k0_pay28 q0) b0 q1 b1 q2 b2 q3 b3) (ix3 0 q l)
      = attend (fun l => q0 (ix3 0 q l)) (fun k l => kb (ix3 0 k l)) (fun k l => vb (ix3 0 k l))
        (fun h key => b0 (ix4 0 0 ⟨(h : ℕ) * 64 + q, by omega⟩ key)) l := by
  rw [← attend_eq]
  have hs : ∀ v127, k0_pay31 (F := Ideal) k0_pay3 (k0_pay27 vb) v127 (ix3 0 q l)
      = if (l : ℕ) < 64 then k0_pay30 (F := Ideal) (k0_pay27 vb) v127 (ix2 ⟨0 + q, by omega⟩ l)
        else k0_pay30 (F := Ideal) (k0_pay27 vb) v127 (ix2 ⟨64 + q, by omega⟩ l) := fun v127 => by
    pointwise [k0_pay3, k0_pay31]
    rw [select_lane _ l.isLt]
  rw [hs, bottom_soft, bottom_soft]
  simp only [bottom_scores0_0, bottom_scores0_1]
  have hv : ∀ key : Fin 512, k0_pay27 (F := Ideal) vb (ix2 key l) = vb (ix3 0 key l) := fun key => by pointwise [k0_pay27]
  simp only [hv]
  rfl

/-- Bottom row 29's scores for head 0 of the pair. -/
theorem bottom_scores1_0 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨128 + q, by omega⟩ key)
      = (∑ d : Fin 64, q1 (ix3 0 q ⟨d, by omega⟩) * kb (ix3 0 key ⟨d, by omega⟩)) + b1 (ix4 0 0 ⟨0 + q, by omega⟩ key) := by
  pointwise [k0_pay3, k0_pay26, k0_pay28, k0_pay29]
  simp (disch := omega) only [dif_neg, dif_pos,
    show 128 + (q : ℕ) - 64 - 64 = q by omega, Fin.eta,
    show 128 + (q : ℕ) - 128 = q by omega, select_mul, select_mul', sum_low]

/-- Bottom row 29's scores for head 1 of the pair. -/
theorem bottom_scores1_1 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨192 + q, by omega⟩ key)
      = (∑ d : Fin 64, q1 (ix3 0 q ⟨64 + d, by omega⟩) * kb (ix3 0 key ⟨64 + d, by omega⟩)) + b1 (ix4 0 0 ⟨64 + q, by omega⟩ key) := by
  pointwise [k0_pay3, k0_pay26, k0_pay28, k0_pay29]
  simp (disch := omega) only [dif_neg, dif_pos,
    show 192 + (q : ℕ) - 64 - 64 - 64 = q by omega, Fin.eta,
    show 192 + (q : ℕ) - 128 = 64 + q by omega, select_mul, select_mul', sum_high]

/-- Bottom row 29's stored value: its own attention, read off the four rows' joint products. -/
theorem bottom_pay1 (kb vb : Vec Ideal S1x512x128 .bf16) (q0 q1 q2 q3 : Vec Ideal S1x64x128 .bf16)
    (b0 b1 b2 b3 : Vec Ideal S1x1x128x512 .f32) (q : Fin 64) (l : Fin 128) :
    k0_pay32 (F := Ideal) k0_pay3 (k0_pay27 vb) (k0_pay29 (F := Ideal) k0_pay3 (k0_pay26 kb) (k0_pay28 q0) b0 q1 b1 q2 b2 q3 b3) (ix3 0 q l)
      = attend (fun l => q1 (ix3 0 q l)) (fun k l => kb (ix3 0 k l)) (fun k l => vb (ix3 0 k l))
        (fun h key => b1 (ix4 0 0 ⟨(h : ℕ) * 64 + q, by omega⟩ key)) l := by
  rw [← attend_eq]
  have hs : ∀ v127, k0_pay32 (F := Ideal) k0_pay3 (k0_pay27 vb) v127 (ix3 0 q l)
      = if (l : ℕ) < 64 then k0_pay30 (F := Ideal) (k0_pay27 vb) v127 (ix2 ⟨128 + q, by omega⟩ l)
        else k0_pay30 (F := Ideal) (k0_pay27 vb) v127 (ix2 ⟨192 + q, by omega⟩ l) := fun v127 => by
    pointwise [k0_pay3, k0_pay32]
    rw [select_lane _ l.isLt]
  rw [hs, bottom_soft, bottom_soft]
  simp only [bottom_scores1_0, bottom_scores1_1]
  have hv : ∀ key : Fin 512, k0_pay27 (F := Ideal) vb (ix2 key l) = vb (ix3 0 key l) := fun key => by pointwise [k0_pay27]
  simp only [hv]
  rfl

/-- Bottom row 30's scores for head 0 of the pair. -/
theorem bottom_scores2_0 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨256 + q, by omega⟩ key)
      = (∑ d : Fin 64, q2 (ix3 0 q ⟨d, by omega⟩) * kb (ix3 0 key ⟨d, by omega⟩)) + b2 (ix4 0 0 ⟨0 + q, by omega⟩ key) := by
  pointwise [k0_pay3, k0_pay26, k0_pay28, k0_pay29]
  simp (disch := omega) only [dif_neg, dif_pos,
    show 256 + (q : ℕ) - 64 - 64 - 64 - 64 = q by omega, Fin.eta,
    show 256 + (q : ℕ) - 128 - 128 = q by omega, select_mul, select_mul', sum_low]

/-- Bottom row 30's scores for head 1 of the pair. -/
theorem bottom_scores2_1 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨320 + q, by omega⟩ key)
      = (∑ d : Fin 64, q2 (ix3 0 q ⟨64 + d, by omega⟩) * kb (ix3 0 key ⟨64 + d, by omega⟩)) + b2 (ix4 0 0 ⟨64 + q, by omega⟩ key) := by
  pointwise [k0_pay3, k0_pay26, k0_pay28, k0_pay29]
  simp (disch := omega) only [dif_neg, dif_pos,
    show 320 + (q : ℕ) - 64 - 64 - 64 - 64 - 64 = q by omega, Fin.eta,
    show 320 + (q : ℕ) - 128 - 128 = 64 + q by omega, select_mul, select_mul', sum_high]

/-- Bottom row 30's stored value: its own attention, read off the four rows' joint products. -/
theorem bottom_pay2 (kb vb : Vec Ideal S1x512x128 .bf16) (q0 q1 q2 q3 : Vec Ideal S1x64x128 .bf16)
    (b0 b1 b2 b3 : Vec Ideal S1x1x128x512 .f32) (q : Fin 64) (l : Fin 128) :
    k0_pay33 (F := Ideal) k0_pay3 (k0_pay27 vb) (k0_pay29 (F := Ideal) k0_pay3 (k0_pay26 kb) (k0_pay28 q0) b0 q1 b1 q2 b2 q3 b3) (ix3 0 q l)
      = attend (fun l => q2 (ix3 0 q l)) (fun k l => kb (ix3 0 k l)) (fun k l => vb (ix3 0 k l))
        (fun h key => b2 (ix4 0 0 ⟨(h : ℕ) * 64 + q, by omega⟩ key)) l := by
  rw [← attend_eq]
  have hs : ∀ v127, k0_pay33 (F := Ideal) k0_pay3 (k0_pay27 vb) v127 (ix3 0 q l)
      = if (l : ℕ) < 64 then k0_pay30 (F := Ideal) (k0_pay27 vb) v127 (ix2 ⟨256 + q, by omega⟩ l)
        else k0_pay30 (F := Ideal) (k0_pay27 vb) v127 (ix2 ⟨320 + q, by omega⟩ l) := fun v127 => by
    pointwise [k0_pay3, k0_pay33]
    rw [select_lane _ l.isLt]
  rw [hs, bottom_soft, bottom_soft]
  simp only [bottom_scores2_0, bottom_scores2_1]
  have hv : ∀ key : Fin 512, k0_pay27 (F := Ideal) vb (ix2 key l) = vb (ix3 0 key l) := fun key => by pointwise [k0_pay27]
  simp only [hv]
  rfl

/-- Bottom row 31's scores for head 0 of the pair. -/
theorem bottom_scores3_0 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨384 + q, by omega⟩ key)
      = (∑ d : Fin 64, q3 (ix3 0 q ⟨d, by omega⟩) * kb (ix3 0 key ⟨d, by omega⟩)) + b3 (ix4 0 0 ⟨0 + q, by omega⟩ key) := by
  pointwise [k0_pay3, k0_pay26, k0_pay28, k0_pay29]
  simp (disch := omega) only [dif_neg, dif_pos,
    show 384 + (q : ℕ) - 64 - 64 - 64 - 64 - 64 - 64 = q by omega, Fin.eta,
    show 384 + (q : ℕ) - 128 - 128 - 128 = q by omega, select_mul, select_mul', sum_low]

/-- Bottom row 31's scores for head 1 of the pair. -/
theorem bottom_scores3_1 (kb : Vec Ideal S1x512x128 .bf16) (q0 q1 q2 q3 : Vec Ideal S1x64x128 .bf16)
    (b0 b1 b2 b3 : Vec Ideal S1x1x128x512 .f32) (q : Fin 64) (key : Fin 512) :
    k0_pay29 (F := Ideal) k0_pay3 (k0_pay26 kb) (k0_pay28 q0) b0 q1 b1 q2 b2 q3 b3 (ix2 ⟨448 + q, by omega⟩ key)
      = (∑ d : Fin 64, q3 (ix3 0 q ⟨64 + d, by omega⟩) * kb (ix3 0 key ⟨64 + d, by omega⟩)) + b3 (ix4 0 0 ⟨64 + q, by omega⟩ key) := by
  pointwise [k0_pay3, k0_pay26, k0_pay28, k0_pay29]
  simp (disch := omega) only [dif_neg, dif_pos,
    show 448 + (q : ℕ) - 64 - 64 - 64 - 64 - 64 - 64 - 64 = q by omega, Fin.eta,
    show 448 + (q : ℕ) - 128 - 128 - 128 = 64 + q by omega, select_mul, select_mul', sum_high]

/-- Bottom row 31's stored value: its own attention, read off the four rows' joint products. -/
theorem bottom_pay3 (kb vb : Vec Ideal S1x512x128 .bf16) (q0 q1 q2 q3 : Vec Ideal S1x64x128 .bf16)
    (b0 b1 b2 b3 : Vec Ideal S1x1x128x512 .f32) (q : Fin 64) (l : Fin 128) :
    k0_pay34 (F := Ideal) k0_pay3 (k0_pay27 vb) (k0_pay29 (F := Ideal) k0_pay3 (k0_pay26 kb) (k0_pay28 q0) b0 q1 b1 q2 b2 q3 b3) (ix3 0 q l)
      = attend (fun l => q3 (ix3 0 q l)) (fun k l => kb (ix3 0 k l)) (fun k l => vb (ix3 0 k l))
        (fun h key => b3 (ix4 0 0 ⟨(h : ℕ) * 64 + q, by omega⟩ key)) l := by
  rw [← attend_eq]
  have hs : ∀ v127, k0_pay34 (F := Ideal) k0_pay3 (k0_pay27 vb) v127 (ix3 0 q l)
      = if (l : ℕ) < 64 then k0_pay30 (F := Ideal) (k0_pay27 vb) v127 (ix2 ⟨384 + q, by omega⟩ l)
        else k0_pay30 (F := Ideal) (k0_pay27 vb) v127 (ix2 ⟨448 + q, by omega⟩ l) := fun v127 => by
    pointwise [k0_pay3, k0_pay34]
    rw [select_lane _ l.isLt]
  rw [hs, bottom_soft, bottom_soft]
  simp only [bottom_scores3_0, bottom_scores3_1]
  have hv : ∀ key : Fin 512, k0_pay27 (F := Ideal) vb (ix2 key l) = vb (ix3 0 key l) := fun key => by pointwise [k0_pay27]
  simp only [hv]
  rfl

end Cert.KernelIdeal.Value
end
-- ==== Proof.KernelArray.lean ====
module
public import proofs.«01_k».proof.Proof.Gen.KernelIdeal.Frame
public import proofs.«01_k».proof.Proof.Gen.KernelIdeal.Value
public import proofs.«01_k».proof.Proof.KernelBlock
public import Idealize.ShloMosaic.Lib.Pipeline.ValueKit
public import Idealize.ShloMosaic.Lib.WholeRead
@[expose] public section
noncomputable section
open Idealize.ShloMosaic Idealize.ShloMosaic.TcCoe Idealize.SL.Sem
namespace Cert.KernelIdeal.Value
open Cert.KernelIdeal Cert.KernelIdeal.Gen Cert.Softmax
variable (m : (ℓ : Loc nD τ sig) → Buf (Elt Ideal) ℓ)

/-- One trip of the loop over the middle rows stores one piece: the attention of row `k + 5` over the rows it loads. -/
theorem trip_piece (c : Dev nD) (t : Fin cfg0.N) (k : Fin k0_t1_loop.trips) :
    tripL_k0_t1 (F := Ideal) Variants.none c none (grid0.coords t) (ms0_0 t) (hs0_0 t) (ms0_1 t) (hs0_1 t) (ms0_2 t) (hs0_2 t)
        (ms0_3 t) (hs0_3 t) (ms0_4 t) (hs0_4 t) k0_pay3 (5#32) ((hs0_0 t).unread (iblk m c 0 t)) ((hs0_1 t).unread (iblk m c 1 t))
        ((hs0_2 t).unread (iblk m c 2 t)) ((hs0_3 t).unread (iblk m c 3 t)) k
      = [⟨Rect.unit (s := S1x2048x128) (k0_off2 k) S1x64x128.size (k0_off2_inb k),
          k0_pay1 (F := Ideal) k0_pay3 (k0_pay2 (F := Ideal) k0_pay3
            (View.ld (iblk m c 1 t) (Rect.unit (s := S1x2048x128) (k0_off1 k) S1x512x128.size (k0_off1_inb k)))
            (View.ld (iblk m c 2 t) (Rect.unit (s := S1x2048x128) (k0_off1 k) S1x512x128.size (k0_off1_inb k)))
            (View.ld (iblk m c 0 t) (Rect.unit (s := S1x2048x128) (k0_off2 k) S1x64x128.size (k0_off2_inb k)))
            (View.ld (iblk m c 3 t) (Rect.unit (s := S8x1x128x512) (k0_off3 k) S1x1x128x512.size (k0_off3_inb k))))⟩] := by
  show (trip_k0_t1 (F := Ideal) Variants.none c none (grid0.coords t) (ms0_0 t) (hs0_0 t) (ms0_1 t) (hs0_1 t) (ms0_2 t) (hs0_2 t)
        (ms0_3 t) (hs0_3 t) (ms0_4 t) (hs0_4 t) k0_pay3 (5#32) ((hs0_0 t).unread (iblk m c 0 t)) ((hs0_1 t).unread (iblk m c 1 t))
        ((hs0_2 t).unread (iblk m c 2 t)) ((hs0_3 t).unread (iblk m c 3 t)) k).1 = _
  unfold trip_k0_t1
  dsimp only
  unfold trip_k0_t1.sl.r
  have h0 : ∀ R : Rect S1x2048x128, View.readAt (Elt Ideal) (ms0_0 t).view R.toLoadRect ((hs0_0 t).unread (iblk m c 0 t))
      = View.ld (iblk m c 0 t) R := fun R => funext fun x => (hs0_0 t).readAt_unread _ _ x
  have h1 : ∀ R : Rect S1x2048x128, View.readAt (Elt Ideal) (ms0_1 t).view R.toLoadRect ((hs0_1 t).unread (iblk m c 1 t))
      = View.ld (iblk m c 1 t) R := fun R => funext fun x => (hs0_1 t).readAt_unread _ _ x
  have h2 : ∀ R : Rect S1x2048x128, View.readAt (Elt Ideal) (ms0_2 t).view R.toLoadRect ((hs0_2 t).unread (iblk m c 2 t))
      = View.ld (iblk m c 2 t) R := fun R => funext fun x => (hs0_2 t).readAt_unread _ _ x
  have h3 : ∀ R : Rect S8x1x128x512, View.readAt (Elt Ideal) (ms0_3 t).view R.toLoadRect ((hs0_3 t).unread (iblk m c 3 t))
      = View.ld (iblk m c 3 t) R := fun R => funext fun x => (hs0_3 t).readAt_unread _ _ x
  rw [h0, h1, h2, h3]

/-- The loads' places in a trip, as numbers. -/
theorem trip_offs : ∀ k : Fin k0_t1_loop.trips,
    k0_off1 k = ![0, ((k : ℕ) + 1) * 64, 0] ∧ k0_off2 k = ![0, ((k : ℕ) + 5) * 64, 0] ∧ k0_off3 k = ![4, 0, 0, 0] ∧ (k : ℕ) < 23 := by
  decide +kernel

/-- The first of the 8 rows of keys that row `r` attends to. -/
def firstRow (r : ℕ) : ℕ := min (r - 4) 24

/-- The block's attention at row `r`, column `q`, lane `l`. -/
def rowOut (x0 x1 x2 : Vec Ideal S1x2048x128 .bf16) (x3 : Vec Ideal S8x1x128x512 .f32) (r : Fin 32) (q : Fin 64) (l : Fin 128) : EReal :=
  attend (fun l => x0 (ix3 0 ⟨(r : ℕ) * 64 + q, by omega⟩ l))
    (fun key l => x1 (ix3 0 ⟨firstRow r * 64 + key, by unfold firstRow; omega⟩ l))
    (fun key l => x2 (ix3 0 ⟨firstRow r * 64 + key, by unfold firstRow; omega⟩ l))
    (fun h key => x3 (ix4 ⟨(r : ℕ) - firstRow r, by unfold firstRow; omega⟩ 0 ⟨(h : ℕ) * 64 + q, by omega⟩ key)) l

/-- The block's attention as an array. -/
def blockOut (x0 x1 x2 : Vec Ideal S1x2048x128 .bf16) (x3 : Vec Ideal S8x1x128x512 .f32) (y : S1x2048x128.Idx) : EReal :=
  rowOut x0 x1 x2 x3 ⟨(y 1 : ℕ) / 64, by have := (y 1).isLt; change (y 1 : ℕ) < 2048 at this; omega⟩ ⟨(y 1 : ℕ) % 64, by omega⟩ (y 2)

/-- The place in the block of a row of 64 queries. -/
theorem emb_rows (o : ℕ) (h : ∀ a, ![0, o, 0] a + S1x64x128.size a ≤ S1x2048x128.size a) (q : Fin 64) (l : Fin 128) (hq : o + q < 2048) :
    (Rect.unit (s := S1x2048x128) ![0, o, 0] S1x64x128.size h).emb (ix3 0 q l) = (ix3 0 ⟨o + q, hq⟩ l : S1x2048x128.Idx) := by
  ext a; fin_cases a
  · rfl
  · show o + 1 * (q : ℕ) = o + q; omega
  · show 0 + 1 * (l : ℕ) = l; omega

/-- The place in the block of a run of 512 keys. -/
theorem emb_keys (o : ℕ) (h : ∀ a, ![0, o, 0] a + S1x512x128.size a ≤ S1x2048x128.size a) (q : Fin 512) (l : Fin 128) (hq : o + q < 2048) :
    (Rect.unit (s := S1x2048x128) ![0, o, 0] S1x512x128.size h).emb (ix3 0 q l) = (ix3 0 ⟨o + q, hq⟩ l : S1x2048x128.Idx) := by
  ext a; fin_cases a
  · rfl
  · show o + 1 * (q : ℕ) = o + q; omega
  · show 0 + 1 * (l : ℕ) = l; omega

/-- The place in the bias block of one row offset's biases. -/
theorem emb_bias (o : ℕ) (h : ∀ a, ![o, 0, 0, 0] a + S1x1x128x512.size a ≤ S8x1x128x512.size a) (q : Fin 128) (l : Fin 512) (hq : o < 8) :
    (Rect.unit (s := S8x1x128x512) ![o, 0, 0, 0] S1x1x128x512.size h).emb (ix4 0 0 q l) = (ix4 ⟨o, hq⟩ 0 q l : S8x1x128x512.Idx) := by
  ext a; fin_cases a
  · rfl
  · rfl
  · show 0 + 1 * (q : ℕ) = q; omega
  · show 0 + 1 * (l : ℕ) = l; omega

/-- A stored piece whose rows are attentions over the loads at row `r`'s places is a block of the attention array. -/
theorem piece_ok (x0 x1 x2 : Vec Ideal S1x2048x128 .bf16) (x3 : Vec Ideal S8x1x128x512 .f32) (r : ℕ) (hr : r < 32)
    (o1 o2 : Fin 3 → ℕ) (o3 : Fin 4 → ℕ) (e1 : o1 = ![0, firstRow r * 64, 0]) (e2 : o2 = ![0, r * 64, 0]) (e3 : o3 = ![r - firstRow r, 0, 0, 0])
    (h1 : ∀ a, o1 a + S1x512x128.size a ≤ S1x2048x128.size a) (h2 : ∀ a, o2 a + S1x64x128.size a ≤ S1x2048x128.size a)
    (h3 : ∀ a, o3 a + S1x1x128x512.size a ≤ S8x1x128x512.size a) (p : Vec Ideal S1x64x128 .bf16)
    (hp : ∀ (q : Fin 64) (l : Fin 128), p (ix3 0 q l)
      = attend (fun l => View.ld x0 (Rect.unit (s := S1x2048x128) o2 S1x64x128.size h2) (ix3 0 q l))
          (fun k l => View.ld x1 (Rect.unit (s := S1x2048x128) o1 S1x512x128.size h1) (ix3 0 k l))
          (fun k l => View.ld x2 (Rect.unit (s := S1x2048x128) o1 S1x512x128.size h1) (ix3 0 k l))
          (fun h key => View.ld x3 (Rect.unit (s := S8x1x128x512) o3 S1x1x128x512.size h3) (ix4 0 0 ⟨(h : ℕ) * 64 + q, by omega⟩ key)) l)
    (x : S1x64x128.Idx) : p x = blockOut x0 x1 x2 x3 ((Rect.unit (s := S1x2048x128) o2 S1x64x128.size h2).emb x) := by
  subst e1 e2 e3
  obtain ⟨a, q, l, rfl⟩ : ∃ (a : Fin 1) (q : Fin 64) (l : Fin 128), x = ix3 a q l := ⟨x 0, x 1, x 2, by ext i; fin_cases i <;> rfl⟩
  obtain rfl : a = 0 := Subsingleton.elim _ _
  rw [hp]
  have ey : (Rect.unit (s := S1x2048x128) ![0, r * 64, 0] S1x64x128.size h2).emb (ix3 0 q l) = (ix3 0 ⟨r * 64 + q, by omega⟩ l : S1x2048x128.Idx) :=
    emb_rows _ _ _ _ (by omega)
  rw [ey]
  have e : blockOut x0 x1 x2 x3 (ix3 0 ⟨r * 64 + q, by omega⟩ l) = rowOut x0 x1 x2 x3 ⟨r, hr⟩ q l := by
    unfold blockOut
    congr 1
    · exact Fin.ext (by show (r * 64 + (q : ℕ)) / 64 = r; omega)
    · exact Fin.ext (by show (r * 64 + (q : ℕ)) % 64 = q; omega)
  rw [e]
  unfold rowOut
  congr 1
  · exact funext fun l => congrArg x0 (emb_rows _ _ _ _ (by omega))
  · exact funext fun key => funext fun l => congrArg x1 (emb_keys _ _ _ _ (by unfold firstRow; omega))
  · exact funext fun key => funext fun l => congrArg x2 (emb_keys _ _ _ _ (by unfold firstRow; omega))
  · exact funext fun h => funext fun key => congrArg x3 (emb_bias _ _ _ _ (by unfold firstRow; omega))

/-- Every piece the loop has stored is a block of the attention array. -/
theorem loop_ok (c : Dev nD) (t : Fin cfg0.N) (n : ℕ) (p) (hp : p ∈ pb_k0_t1 (F := Ideal) Variants.none c none (grid0.coords t) (ms0_0 t) (hs0_0 t)
      (ms0_1 t) (hs0_1 t) (ms0_2 t) (hs0_2 t) (ms0_3 t) (hs0_3 t) (ms0_4 t) (hs0_4 t) k0_pay3 (5#32) ((hs0_0 t).unread (iblk m c 0 t))
      ((hs0_1 t).unread (iblk m c 1 t)) ((hs0_2 t).unread (iblk m c 2 t)) ((hs0_3 t).unread (iblk m c 3 t)) n) (x : p.1.shape.Idx) :
    p.2 x = blockOut (iblk m c 0 t) (iblk m c 1 t) (iblk m c 2 t) (iblk m c 3 t) (p.1.emb x) := by
  induction n with
  | zero => exact absurd hp List.not_mem_nil
  | succ n ih =>
    by_cases hn : n < k0_t1_loop.trips
    · have e := pb_k0_t1_succ (F := Ideal) Variants.none c none (grid0.coords t) (ms0_0 t) (hs0_0 t)
        (ms0_1 t) (hs0_1 t) (ms0_2 t) (hs0_2 t) (ms0_3 t) (hs0_3 t) (ms0_4 t) (hs0_4 t) k0_pay3 (5#32) ((hs0_0 t).unread (iblk m c 0 t))
        ((hs0_1 t).unread (iblk m c 1 t)) ((hs0_2 t).unread (iblk m c 2 t)) ((hs0_3 t).unread (iblk m c 3 t)) ⟨n, hn⟩
      rw [e, List.mem_append, trip_piece] at hp
      rcases hp with hp | hp
      · rw [List.mem_singleton] at hp
        subst hp
        obtain ⟨e1, e2, e3, hk⟩ := trip_offs ⟨n, hn⟩
        have hk' : n < 23 := hk
        refine piece_ok _ _ _ _ (n + 5) (by omega) _ _ _ ?_ ?_ ?_ _ _ _ _ (fun q l => loop_pay _ _ _ _ q l) x
        · rw [e1, show firstRow (n + 5) = n + 1 by unfold firstRow; omega]
        · rw [e2]
        · rw [e3, show n + 5 - firstRow (n + 5) = 4 by unfold firstRow; omega]
      · exact ih hp
    · refine ih ?_
      rw [pb_k0_t1.eq_2] at hp
      unfold pb_k0_t1Step at hp
      rwa [dif_neg hn] at hp

/-- What the body leaves at a point is the block's attention. -/
theorem block_eq (c : Dev nD) (t : Fin cfg0.N) (y : S1x2048x128.Idx) :
    outsAt0 m c t y = blockOut (iblk m c 0 t) (iblk m c 1 t) (iblk m c 2 t) (iblk m c 3 t) y := by
  have hc := cover0_A_4 (F := Ideal) c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t) y
  unfold outsAt0 out0_A_4
  frame_out
  frame_out at hc
  refine View.canon_apply_of_pieces _ _ (fun p hp => ?_) y hc
  rw [List.mem_append] at hp
  rcases hp with hp | hp
  · exact loop_ok m c t _ p hp
  · simp only [List.mem_cons, List.not_mem_nil, or_false] at hp
    rcases hp with rfl | rfl | rfl | rfl | rfl | rfl | rfl | rfl | rfl
    · exact piece_ok _ _ _ _ 31 (by omega) _ _ _ rfl rfl rfl _ _ _ _ (fun q l => bottom_pay3 _ _ _ _ _ _ _ _ _ _ q l)
    · exact piece_ok _ _ _ _ 30 (by omega) _ _ _ rfl rfl rfl _ _ _ _ (fun q l => bottom_pay2 _ _ _ _ _ _ _ _ _ _ q l)
    · exact piece_ok _ _ _ _ 29 (by omega) _ _ _ rfl rfl rfl _ _ _ _ (fun q l => bottom_pay1 _ _ _ _ _ _ _ _ _ _ q l)
    · exact piece_ok _ _ _ _ 28 (by omega) _ _ _ rfl rfl rfl _ _ _ _ (fun q l => bottom_pay0 _ _ _ _ _ _ _ _ _ _ q l)
    · exact piece_ok _ _ _ _ 4 (by omega) _ _ _ rfl rfl rfl _ _ _ _ (fun q l => top_pay4 _ _ _ _ _ _ _ _ _ _ _ _ q l)
    · exact piece_ok _ _ _ _ 3 (by omega) _ _ _ rfl rfl rfl _ _ _ _ (fun q l => top_pay3 _ _ _ _ _ _ _ _ _ _ _ _ q l)
    · exact piece_ok _ _ _ _ 2 (by omega) _ _ _ rfl rfl rfl _ _ _ _ (fun q l => top_pay2 _ _ _ _ _ _ _ _ _ _ _ _ q l)
    · exact piece_ok _ _ _ _ 1 (by omega) _ _ _ rfl rfl rfl _ _ _ _ (fun q l => top_pay1 _ _ _ _ _ _ _ _ _ _ _ _ q l)
    · exact piece_ok _ _ _ _ 0 (by omega) _ _ _ rfl rfl rfl _ _ _ _ (fun q l => top_pay0 _ _ _ _ _ _ _ _ _ _ _ _ q l)

/-- The windows' block indices: point `t` is head pair `t / 16` of sequence `t % 16`. -/
theorem idx : ∀ t : Fin cfg0.N, win0_0.index t = ![(t : ℕ) % 16, 0, (t : ℕ) / 16] ∧ win0_1.index t = ![(t : ℕ) % 16, 0, 4 + (t : ℕ) / 16]
    ∧ win0_2.index t = ![(t : ℕ) % 16, 0, 8 + (t : ℕ) / 16] ∧ win0_3.index t = ![0, (t : ℕ) / 16, 0, 0]
    ∧ win0_4.index t = ![(t : ℕ) % 16, 0, (t : ℕ) / 16] ∧ (t : ℕ) < 64 :=
  (by decide +kernel : ∀ t : Fin grid0.N, _)

/-- The attention read off the whole arrays: sequence `b`, row `r`, column `q`, output lane `col`, the biases from the table. -/
def attnAt (X : (⟨S16x2048x1536, .bf16⟩ : BufTy).Contents (Elt Ideal)) (T : (⟨S8x4x128x512, .f32⟩ : BufTy).Contents (Elt Ideal))
    (b : Fin 16) (r : Fin 32) (q : Fin 64) (col : Fin 512) : EReal :=
  attend (fun l => X (ix3 b ⟨(r : ℕ) * 64 + q, by omega⟩ ⟨(col : ℕ) / 128 * 128 + l, by omega⟩))
    (fun key l => X (ix3 b ⟨firstRow r * 64 + key, by unfold firstRow; omega⟩ ⟨512 + ((col : ℕ) / 128 * 128 + l), by omega⟩))
    (fun key l => X (ix3 b ⟨firstRow r * 64 + key, by unfold firstRow; omega⟩ ⟨1024 + ((col : ℕ) / 128 * 128 + l), by omega⟩))
    (fun h key => T (ix4 ⟨(r : ℕ) - firstRow r, by unfold firstRow; omega⟩ ⟨(col : ℕ) / 128, by omega⟩ ⟨(h : ℕ) * 64 + q, by omega⟩ key))
    ⟨(col : ℕ) % 128, by omega⟩

/-- The same as an array over the output's index. -/
def attnArr (X : (⟨S16x2048x1536, .bf16⟩ : BufTy).Contents (Elt Ideal)) (T : (⟨S8x4x128x512, .f32⟩ : BufTy).Contents (Elt Ideal))
    (j : S16x2048x512.Idx) : EReal :=
  attnAt X T (j 0) ⟨(j 1 : ℕ) / 64, by have := (j 1).isLt; change (j 1 : ℕ) < 2048 at this; omega⟩ ⟨(j 1 : ℕ) % 64, by omega⟩ (j 2)

/-- Window 0's block reads the queries' columns. -/
theorem iblk0 (c : Dev nD) (t : Fin cfg0.N) (s : Fin 2048) (l : Fin 128) : iblk m c 0 t (ix3 0 s l)
    = V m c main_arg0 (ix3 ⟨(t : ℕ) % 16, by omega⟩ s ⟨(t : ℕ) / 16 * 128 + l, by have := (idx t).2.2.2.2.2; omega⟩) := by
  blk_ext [iblk, V, idx t]

/-- Window 1's block reads the keys' columns. -/
theorem iblk1 (c : Dev nD) (t : Fin cfg0.N) (s : Fin 2048) (l : Fin 128) : iblk m c 1 t (ix3 0 s l)
    = V m c main_arg0 (ix3 ⟨(t : ℕ) % 16, by omega⟩ s ⟨512 + ((t : ℕ) / 16 * 128 + l), by have := (idx t).2.2.2.2.2; omega⟩) := by
  blk_ext [iblk, V, idx t]

/-- Window 2's block reads the values' columns. -/
theorem iblk2 (c : Dev nD) (t : Fin cfg0.N) (s : Fin 2048) (l : Fin 128) : iblk m c 2 t (ix3 0 s l)
    = V m c main_arg0 (ix3 ⟨(t : ℕ) % 16, by omega⟩ s ⟨1024 + ((t : ℕ) / 16 * 128 + l), by have := (idx t).2.2.2.2.2; omega⟩) := by
  blk_ext [iblk, V, idx t]

/-- Window 3's block reads the head pair's biases. -/
theorem iblk3 (c : Dev nD) (t : Fin cfg0.N) (d : Fin 8) (n : Fin 128) (key : Fin 512) : iblk m c 3 t (ix4 d 0 n key)
    = V m c main_v52 (ix4 d ⟨(t : ℕ) / 16, by have := (idx t).2.2.2.2.2; omega⟩ n key) := by
  blk_ext [iblk, idx t]

/-- The output's block at point `t`. -/
theorem emb4 (t : Fin cfg0.N) (s : Fin 2048) (l : Fin 128) : (win0_4.blk t).view.emb (ix3 0 s l : S1x2048x128.Idx)
    = (ix3 ⟨(t : ℕ) % 16, by omega⟩ s ⟨(t : ℕ) / 16 * 128 + l, by have := (idx t).2.2.2.2.2; omega⟩ : S16x2048x512.Idx) := by
  blk_ext [idx t]

/-- One point's block of the output is the whole arrays' attention at the block's place. -/
theorem point (c : Dev nD) (t : Fin cfg0.N) (y : S1x2048x128.Idx) :
    blockOut (iblk m c 0 t) (iblk m c 1 t) (iblk m c 2 t) (iblk m c 3 t) y
      = attnArr (V m c main_arg0) (V m c main_v52) ((win0_4.blk t).view.emb y) := by
  obtain ⟨a, s, l, rfl⟩ : ∃ (a : Fin 1) (s : Fin 2048) (l : Fin 128), y = ix3 a s l := ⟨y 0, y 1, y 2, by ext i; fin_cases i <;> rfl⟩
  obtain rfl : a = 0 := Subsingleton.elim _ _
  rw [emb4]
  have h64 := (idx t).2.2.2.2.2
  have e1 : ((t : ℕ) / 16 * 128 + (l : ℕ)) / 128 = (t : ℕ) / 16 := by omega
  have e2 : ((t : ℕ) / 16 * 128 + (l : ℕ)) % 128 = l := by omega
  show rowOut _ _ _ _ ⟨(s : ℕ) / 64, _⟩ ⟨(s : ℕ) % 64, _⟩ l
    = attnAt _ _ ⟨(t : ℕ) % 16, _⟩ ⟨(s : ℕ) / 64, _⟩ ⟨(s : ℕ) % 64, _⟩ ⟨(t : ℕ) / 16 * 128 + l, _⟩
  unfold rowOut attnAt
  simp only [iblk0, iblk1, iblk2, iblk3, e1, e2]

/-- The kernel's output array is the attention over the whole arrays. -/
theorem array_eq (c : Dev nD) : (dats m 0 c).arrAt 4 cfg0.N = attnArr (V m c main_arg0) (V m c main_v52) := by
  refine (dats m 0 c).arrAt_eq_of_covers 4 _ (by decide +kernel) fun t _ y => ?_
  blk_simp
  rw [after0_4, block_eq]
  exact point m c t y

end Cert.KernelIdeal.Value
end
-- ==== Proof.KernelTable.lean ====
module
public import proofs.«01_k».proof.Proof.KernelArray
public import Idealize.ShloMosaic.Lib.StableHlo.ReadAt
@[expose] public section
set_option maxRecDepth 16384
noncomputable section
open Idealize.ShloMosaic Idealize.ShloMosaic.TcCoe Idealize.SL.Sem
namespace Cert.KernelIdeal.Value
open Cert.KernelIdeal Cert.KernelIdeal.Gen Cert.Softmax

/-- Two lists of host operations, one after the other. -/
theorem after_append (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons o l ih => exact ih _

/-- The first of the 16 key columns that column `q` attends to. -/
def firstCol (q : ℕ) : ℕ := min (q - 8) 48

/-- The bias column of query column `q` and key column `c`. -/
def biasCol (q c : ℕ) : ℕ := min (c + 15 - q) 30

/-- The table's integer mask of a query column and a key column is the window's condition. -/
theorem mask_word : ∀ q c : Fin 64,
    IntOp.andi
        (IntOp.cmpi CmpIPredicate.sge (BitVec.ofNat 32 (c : ℕ))
          (IntOp.minsi 48#32 (IntOp.maxsi 0#32 (IntOp.subi (BitVec.ofNat 32 (q : ℕ)) 8#32))))
        (IntOp.cmpi CmpIPredicate.slt (BitVec.ofNat 32 (c : ℕ))
          (IntOp.addi (IntOp.minsi 48#32 (IntOp.maxsi 0#32 (IntOp.subi (BitVec.ofNat 32 (q : ℕ)) 8#32))) 16#32))
      = if firstCol q ≤ c ∧ (c : ℕ) < firstCol q + 16 then 1#1 else 0#1 := by
  decide +kernel

/-- The table's bias column as a word. -/
theorem biasCol_word : ∀ q c : Fin 64,
    IntOp.minsi 30#32 (IntOp.maxsi 0#32 (IntOp.subi (IntOp.addi (IntOp.subi (BitVec.ofNat 32 (c : ℕ)) (BitVec.ofNat 32 (q : ℕ))) 16#32) 1#32))
      = BitVec.ofNat 32 (biasCol q c) := by
  decide +kernel

/-- Two bias columns are equal as words exactly when they are equal. -/
theorem eq_word : ∀ x y : Fin 31, IntOp.cmpi CmpIPredicate.eq (BitVec.ofNat 32 (x : ℕ)) (BitVec.ofNat 32 (y : ℕ)) = if x = y then 1#1 else 0#1 := by
  decide +kernel

/-- A sum against a one-hot row picks one term. -/
theorem sum_onehot (f : Fin 31 → EReal) (y : Fin 31) :
    ∑ x : Fin 31, f x * FloatOps.uitofp (F := Ideal) FTy.f32 (IntOp.cmpi CmpIPredicate.eq (BitVec.ofNat 32 (x : ℕ)) (BitVec.ofNat 32 (y : ℕ))) = f y := by
  rw [Finset.sum_eq_single y]
  · rw [eq_word, if_pos rfl]
    show f y * FloatOps.uitofp (F := Ideal) FTy.f32 (1#1) = f y
    simp [FloatOps.uitofp]
  · intro x _ hx
    rw [eq_word, if_neg hx]
    show f x * FloatOps.uitofp (F := Ideal) FTy.f32 (0#1) = 0
    simp [FloatOps.uitofp]
  · exact fun h => absurd (Finset.mem_univ _) h

/-- The bias argument's values. -/
def biasArg (X : Valuation τ sig (Elt Ideal)) : S8x15x31.Idx → EReal := X (Proc.devRef .tc main_arg1)

/-- A head's bias for a row offset and two columns, minus infinity outside the window of 16 columns. -/
def maskedBias (B : S8x15x31.Idx → EReal) (h : Fin 8) (r : Fin 15) (q c : Fin 64) : EReal :=
  if firstCol q ≤ c ∧ (c : ℕ) < firstCol q + 16 then B (ix3 h r ⟨biasCol q c, by unfold biasCol; omega⟩) else ⊥

/-- The biases of one head and row offset, masked, before they are stacked. -/
theorem masked_bias (X : Valuation τ sig (Elt Ideal)) (h : Fin 8) (r : Fin 15) (q c : Fin 64) :
    StableHlo.after ([hostOps0, hostOps0_1, hostOps0_2, hostOps0_3, hostOps0_4, hostOps0_5].flatten : List (HloOp τ sig (Elt Ideal))) X
        (Proc.devRef .tc main_v33) (ix4 h r q c)
      = maskedBias (biasArg X) h r q c := by
  have key : ∀ B : EReal, B = maskedBias (biasArg X) h r q c
      → StableHlo.after ([hostOps0, hostOps0_1, hostOps0_2, hostOps0_3, hostOps0_4, hostOps0_5].flatten : List (HloOp τ sig (Elt Ideal))) X
        (Proc.devRef .tc main_v33) (ix4 h r q c) = B := by
    intro B hB
    after_reads_at
    show Scalar.select (IntOp.andi
        (IntOp.cmpi CmpIPredicate.sge (BitVec.ofNat 32 (c : ℕ))
          (IntOp.minsi 48#32 (IntOp.maxsi 0#32 (IntOp.subi (BitVec.ofNat 32 (q : ℕ)) 8#32))))
        (IntOp.cmpi CmpIPredicate.slt (BitVec.ofNat 32 (c : ℕ))
          (IntOp.addi (IntOp.minsi 48#32 (IntOp.maxsi 0#32 (IntOp.subi (BitVec.ofNat 32 (q : ℕ)) 8#32))) 16#32)))
        (∑ x : Fin 31, biasArg X (ix3 h r x) *
          FloatOps.uitofp (F := Ideal) FTy.f32 (IntOp.cmpi CmpIPredicate.eq (BitVec.ofNat 32 (x : ℕ))
            (IntOp.minsi 30#32 (IntOp.maxsi 0#32 (IntOp.subi (IntOp.addi (IntOp.subi (BitVec.ofNat 32 (c : ℕ)) (BitVec.ofNat 32 (q : ℕ))) 16#32) 1#32)))))
        (Ideal.ofBits FTy.f32 4286578688#32) = B
    rw [mask_word, biasCol_word, ofBits_bot,
      sum_onehot (fun x => biasArg X (ix3 h r x)) ⟨biasCol q c, by unfold biasCol; omega⟩, hB]
    unfold maskedBias
    split <;> rfl
  exact key _ rfl

set_option maxHeartbeats 2000000 in
/-- The stacked table reads the masked biases. -/
theorem stacked (X : Valuation τ sig (Elt Ideal)) (d : Fin 8) (hp : Fin 4) (n : Fin 128) (key : Fin 512) :
    StableHlo.after (hostOps0_6 : List (HloOp τ sig (Elt Ideal))) X (Proc.devRef .tc main_v52) (ix4 d hp n key)
      = (X (Proc.devRef .tc main_v33) : (⟨S8x15x64x64, .f32⟩ : BufTy).Contents (Elt Ideal)) (ix4 ⟨(hp : ℕ) * 2 + n / 64, by omega⟩
          ⟨7 - (d : ℕ) + key / 64, by omega⟩ ⟨(n : ℕ) % 64, by omega⟩ ⟨(key : ℕ) % 64, by omega⟩) := by
  have h0 : ∀ Y : EReal, Y = (X (Proc.devRef .tc main_v33) : (⟨S8x15x64x64, .f32⟩ : BufTy).Contents (Elt Ideal)) (ix4 ⟨(hp : ℕ) * 2 + n / 64, by omega⟩
          ⟨7 - (d : ℕ) + key / 64, by omega⟩ ⟨(n : ℕ) % 64, by omega⟩ ⟨(key : ℕ) % 64, by omega⟩) →
        StableHlo.after (hostOps0_6 : List (HloOp τ sig (Elt Ideal))) X (Proc.devRef .tc main_v52) (ix4 d hp n key) = Y := by
    intro Y hY
    after_reads_at
    after_reads_at
    rw [hY]
    split_ifs <;> exact congrArg (fun z => (X (Proc.devRef .tc main_v33) : (⟨S8x15x64x64, .f32⟩ : BufTy).Contents (Elt Ideal)) (ix4 _ z _ _))
      (Fin.ext (by dsimp only; omega))
  exact h0 _ rfl
variable (m : (ℓ : Loc nD τ sig) → Buf (Elt Ideal) ℓ)

/-- The bias table at region entry: the masked bias of the head, row offset and columns. -/
theorem table (c : Dev nD) (d : Fin 8) (hp : Fin 4) (n : Fin 128) (key : Fin 512) :
    V m c main_v52 (ix4 d hp n key)
      = maskedBias (m ((c : Thread nD τ).loc main_arg1)) ⟨(hp : ℕ) * 2 + n / 64, by omega⟩ ⟨7 - (d : ℕ) + key / 64, by omega⟩
          ⟨(n : ℕ) % 64, by omega⟩ ⟨(key : ℕ) % 64, by omega⟩ := by
  have e : ([hostOps0, hostOps0_1, hostOps0_2, hostOps0_3, hostOps0_4, hostOps0_5, hostOps0_6].flatten : List (HloOp τ sig (Elt Ideal)))
      = [hostOps0, hostOps0_1, hostOps0_2, hostOps0_3, hostOps0_4, hostOps0_5].flatten ++ hostOps0_6 := by
    simp only [List.flatten_cons, List.flatten_nil, List.append_assoc, List.append_nil]
  unfold V
  rw [e, after_append, stacked, masked_bias]
  rfl
end Cert.KernelIdeal.Value
end
-- ==== Proof.RefRead.lean ====
module
public import proofs.«01_k».proof.Proof.Gen.ReferenceIdeal.Run
public import proofs.«01_k».proof.Proof.Softmax
public import Idealize.ShloMosaic.Lib.Pointwise
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Softmax

/-- An array with one entry per query, repeated along the keys. -/
theorem keep_apply (x : S16x8x32x4x16.Idx → EReal) (b : Fin 16) (h : Fin 8) (r : Fin 32) (n : Fin 4) (q : Fin 16) (i : Fin 8) (k : Fin 32) :
    broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 x) (ix7 b h r n q i k)
      = x (ix5 b h r n q) := by
  rw [broadcastInDim_apply _ _ _ _ (ix7 b h r n q 0 0), broadcastInDim_apply _ _ _ _ (ix5 b h r n q)]
  · intro a
    fin_cases a <;> rfl
  · intro a
    fin_cases a <;> rfl

/-- A query's scores, as places of the array. -/
def place (b : Fin 16) (h : Fin 8) (r : Fin 32) (n : Fin 4) (q : Fin 16) : Fin 8 × Fin 32 ↪ S16x8x32x4x16x8x32.Idx :=
  ⟨fun p => ix7 b h r n q p.1 p.2, fun p p' e => Prod.ext (congrFun e 5) (congrFun e 6)⟩

/-- The places that one query's scores are read from. -/
theorem places_eq (b : Fin 16) (h : Fin 8) (r : Fin 32) (n : Fin 4) (q : Fin 16) :
    (Finset.univ.filter fun i => reducesTo_S16x8x32x4x16x8x32_S16x8x32x4x16_d5_6.drop i = ix5 b h r n q)
      = Finset.univ.map (place b h r n q) := by
  ext j
  simp only [Finset.mem_filter, Finset.mem_univ, true_and, Finset.mem_map, Prod.exists]
  constructor
  · intro e
    refine ⟨j 5, j 6, funext fun a => ?_⟩
    fin_cases a
    · exact (congrFun e 0).symm
    · exact (congrFun e 1).symm
    · exact (congrFun e 2).symm
    · exact (congrFun e 3).symm
    · exact (congrFun e 4).symm
    · rfl
    · rfl
  · rintro ⟨i, k, rfl⟩
    funext a
    fin_cases a <;> rfl

/-- The largest of a query's scores. -/
theorem rowMax_apply (x : FVec Ideal S16x8x32x4x16x8x32 .f32) (b : Fin 16) (h : Fin 8) (r : Fin 32) (n : Fin 4) (q : Fin 16) :
    Host.reduce FloatOps.maximumf x (constant (F := Ideal) S_ .f32 0xFF800000#32) reducesTo_S16x8x32x4x16x8x32_S16x8x32x4x16_d5_6 h_S_ (ix5 b h r n q)
      = Finset.univ.fold max (⊥ : EReal) fun p : Fin 8 × Fin 32 => x (ix7 b h r n q p.1 p.2) := by
  have hbot : Ideal.ofBits FTy.f32 4286578688#32 = (⊥ : EReal) := by simp [Ideal.ofBits, Ideal.ieee]
  pointwise
  rw [places_eq, hbot, Finset.fold_map]
  rfl
/-- The sum of a query's weights. -/
theorem rowSum_apply (x : FVec Ideal S16x8x32x4x16x8x32 .f32) (b : Fin 16) (h : Fin 8) (r : Fin 32) (n : Fin 4) (q : Fin 16) :
    Host.reduceAdd x (constant (F := Ideal) S_ .f32 0x00000000#32) reducesTo_S16x8x32x4x16x8x32_S16x8x32x4x16_d5_6 h_S_ (ix5 b h r n q)
      = ∑ p : Fin 8 × Fin 32, (x (ix7 b h r n q p.1 p.2) : EReal) := by
  pointwise
  unfold Ideal.hostReduceAdd
  rw [places_eq, Finset.sum_map, zero_add]
  rfl

/-- The products of the queries and the keys of their windows, read. -/
theorem scores_apply (x : FVec Ideal S16x32x4x16x8x64 .f32) (y : FVec Ideal S16x32x4x8x32x8x64 .f32) (b : Fin 16) (h : Fin 8) (r : Fin 32) (n : Fin 4) (q : Fin 16) (i : Fin 8) (k : Fin 32) :
    Host.dotGeneral dot_S16x32x4x16x8x64_S16x32x4x8x32x8x64_S16x8x32x4x16x8x32_5_6_3_34_0412_0512 none x y (ix7 b h r n q i k)
      = ∑ d : Fin 64, (x (ix6 b r n q h d) * y (ix7 b r n i k h d) : EReal) := by
  pointwise
/-- The values weighted by the shares, read. -/
theorem out_apply (y : FVec Ideal S16x32x4x8x32x8x64 .f32) (p : FVec Ideal S16x8x32x4x16x8x32 .f32)  (b : Fin 16) (h : Fin 8) (r : Fin 32) (n : Fin 4) (q : Fin 16) (d : Fin 64) :
    Host.dotGeneral dot_S16x32x4x8x32x8x64_S16x8x32x4x16x8x32_S16x32x4x8x64x16_34_56_6_4_0125_0231 none y p (ix6 b r n h d q)
      = ∑ ik : Fin 8 × Fin 32, (y (ix7 b r n ik.1 ik.2 h d) * p (ix7 b h r n q ik.1 ik.2) : EReal) := by
  pointwise
  rw [Fintype.sum_prod_type]
/-- A gathered window reads the row and the column that the indices name. -/
theorem window_apply {α : Type} (x : S16x32x64x8x64.Idx → α) (idx : IVec S32x4x8x32x2 32) (b : Fin 16) (h : Fin 8) (r : Fin 32) (n : Fin 4) (i : Fin 8) (k : Fin 32) (d : Fin 64)
    (row : Fin 32) (col : Fin 64) (hrow : idx (ix5 r n i k 0) = BitVec.ofNat 32 row) (hcol : idx (ix5 r n i k 1) = BitVec.ofNat 32 col) :
    Host.gather gather_S16x32x64x8x64_S32x4x8x32x2_S16x32x4x8x32x8x64_056_12_n_n_12_4_1611864 x idx (ix7 b r n i k h d) = x (ix5 b row col h d) := by
  have e0 : GatherDims.siIdx gather_S16x32x64x8x64_S32x4x8x32x2_S16x32x4x8x32x8x64_056_12_n_n_12_4_1611864 (ix7 b r n i k h d) (0 : Fin 2) = ix5 r n i k 0 := by
    funext a; fin_cases a <;> rfl
  have e1 : GatherDims.siIdx gather_S16x32x64x8x64_S32x4x8x32x2_S16x32x4x8x32x8x64_056_12_n_n_12_4_1611864 (ix7 b r n i k h d) (1 : Fin 2) = ix5 r n i k 1 := by
    funext a; fin_cases a <;> rfl
  have w0 : ∀ z : Fin 32, min (BitVec.ofNat 32 (z : ℕ)).toInt.toNat (32 - 1) = z := by decide +kernel
  have w1 : ∀ z : Fin 64, min (BitVec.ofNat 32 (z : ℕ)).toInt.toNat (64 - 1) = z := by decide +kernel
  refine congrArg x (funext fun a => Fin.ext ?_)
  fin_cases a
  · show 0 + 0 + (b : ℕ) = b
    omega
  · show min (idx (GatherDims.siIdx gather_S16x32x64x8x64_S32x4x8x32x2_S16x32x4x8x32x8x64_056_12_n_n_12_4_1611864 (ix7 b r n i k h d) (0 : Fin 2))).toInt.toNat (32 - 1) + 0 + 0 = row
    rw [e0, hrow, w0]
    omega
  · show min (idx (GatherDims.siIdx gather_S16x32x64x8x64_S32x4x8x32x2_S16x32x4x8x32x8x64_056_12_n_n_12_4_1611864 (ix7 b r n i k h d) (1 : Fin 2))).toInt.toNat (64 - 1) + 0 + 0 = col
    rw [e1, hcol, w1]
    omega
  · show 0 + 0 + (h : ℕ) = h
    omega
  · show 0 + 0 + (d : ℕ) = d
    omega

/-- A gathered bias reads the row and the column that the indices name. -/
theorem biasWindow_apply {α : Type} (x : S8x15x31.Idx → α) (idx : IVec S32x4x16x8x32x2 32) (h : Fin 8) (r : Fin 32) (n : Fin 4) (q : Fin 16) (i : Fin 8) (k : Fin 32)
    (row : Fin 15) (col : Fin 31) (hrow : idx (ix6 r n q i k 0) = BitVec.ofNat 32 row) (hcol : idx (ix6 r n q i k 1) = BitVec.ofNat 32 col) :
    Host.gather gather_S8x15x31_S32x4x16x8x32x2_S8x32x4x16x8x32_0_12_n_n_12_5_811 x idx (ix6 h r n q i k) = x (ix3 h row col) := by
  have e0 : GatherDims.siIdx gather_S8x15x31_S32x4x16x8x32x2_S8x32x4x16x8x32_0_12_n_n_12_5_811 (ix6 h r n q i k) (0 : Fin 2) = ix6 r n q i k 0 := by
    funext a; fin_cases a <;> rfl
  have e1 : GatherDims.siIdx gather_S8x15x31_S32x4x16x8x32x2_S8x32x4x16x8x32_0_12_n_n_12_5_811 (ix6 h r n q i k) (1 : Fin 2) = ix6 r n q i k 1 := by
    funext a; fin_cases a <;> rfl
  have w0 : ∀ z : Fin 15, min (BitVec.ofNat 32 (z : ℕ)).toInt.toNat (15 - 1) = z := by decide +kernel
  have w1 : ∀ z : Fin 31, min (BitVec.ofNat 32 (z : ℕ)).toInt.toNat (31 - 1) = z := by decide +kernel
  refine congrArg x (funext fun a => Fin.ext ?_)
  fin_cases a
  · show 0 + 0 + (h : ℕ) = h
    omega
  · show min (idx (GatherDims.siIdx gather_S8x15x31_S32x4x16x8x32x2_S8x32x4x16x8x32_0_12_n_n_12_5_811 (ix6 h r n q i k) (0 : Fin 2))).toInt.toNat (15 - 1) + 0 + 0 = row
    rw [e0, hrow, w0]
    omega
  · show min (idx (GatherDims.siIdx gather_S8x15x31_S32x4x16x8x32x2_S8x32x4x16x8x32_0_12_n_n_12_5_811 (ix6 h r n q i k) (1 : Fin 2))).toInt.toNat (31 - 1) + 0 + 0 = col
    rw [e1, hcol, w1]
    omega

variable (V0 : Valuation τ sig (Elt Ideal))

/-- The key columns of a tile, as words. -/
theorem v25 (n : Fin 4) (k : Fin 32) : res_main_v25 V0 (ix2 n k) = BitVec.ofNat 32 (min (16 * (n : ℕ) - 8) 32 + k) := by
  have h : ∀ B, B = BitVec.ofNat 32 (min (16 * (n : ℕ) - 8) 32 + k) → res_main_v25 V0 (ix2 n k) = B := by
    intro B hB
    pointwise [res_main_v25, id]
    subst hB; show @Eq (BitVec 32) _ _; revert n k; decide +kernel
  exact h _ rfl

/-- The key rows of a query row, as words. -/
theorem v58 (r : Fin 32) (i : Fin 8) : res_main_v58 V0 (ix2 r i) = BitVec.ofNat 32 (min ((r : ℕ) - 4) 24 + i) := by
  have h : ∀ B, B = BitVec.ofNat 32 (min ((r : ℕ) - 4) 24 + i) → res_main_v58 V0 (ix2 r i) = B := by
    intro B hB
    pointwise [res_main_v58, res_main_v49, id]
    subst hB; show @Eq (BitVec 32) _ _; revert r i; decide +kernel
  exact h _ rfl

/-- The first column of a query column's window, as a word. -/
theorem v27 (n : Fin 4) (q : Fin 16) : res_main_v27 V0 (ix2 n q) = BitVec.ofNat 32 (min (16 * (n : ℕ) + q - 8) 48) := by
  have h : ∀ B, B = BitVec.ofNat 32 (min (16 * (n : ℕ) + q - 8) 48) → res_main_v27 V0 (ix2 n q) = B := by
    intro B hB
    pointwise [res_main_v27, res_main_v10, id]
    subst hB; show @Eq (BitVec 32) _ _; revert n q; decide +kernel
  exact h _ rfl

/-- The bias column of a query and a key, as a word. -/
theorem v104 (n : Fin 4) (q : Fin 16) (k : Fin 32) : res_main_v104 V0 (ix5 0 n q 0 k)
    = BitVec.ofNat 32 (min (min (16 * (n : ℕ) - 8) 32 + k + 15 - (16 * n + q)) 30) := by
  have h : ∀ B, B = BitVec.ofNat 32 (min (min (16 * (n : ℕ) - 8) 32 + k + 15 - (16 * n + q)) 30) → res_main_v104 V0 (ix5 0 n q 0 k) = B := by
    intro B hB
    pointwise [res_main_v104, res_main_v28, res_main_v10, id]
    rw [v25]
    subst hB; show @Eq (BitVec 32) _ _; revert n q k; decide +kernel
  exact h _ rfl

/-- The bias row of a query row and a key row, as a word. -/
theorem v103 (r : Fin 32) (i : Fin 8) : res_main_v103 V0 (ix5 r 0 0 i 0) = BitVec.ofNat 32 (min ((r : ℕ) - 4) 24 + i + 7 - r) := by
  have h : ∀ B, B = BitVec.ofNat 32 (min ((r : ℕ) - 4) 24 + i + 7 - r) → res_main_v103 V0 (ix5 r 0 0 i 0) = B := by
    intro B hB
    pointwise [res_main_v103, res_main_v49, id]
    rw [v58]
    subst hB; show @Eq (BitVec 32) _ _; revert r i; decide +kernel
  exact h _ rfl

/-- The rows and columns of every window's keys, as pairs. -/
def keyIndex (A : IVec S32x1x8x1 32) (B : IVec S1x4x1x32 32) : IVec S32x4x8x32x2 32 :=
  concatenate S32x4x8x32x2 4 [⟨S32x4x8x32x1, (broadcastInDim S32x4x8x32x1 ![0, 1, 2, 3] bcast_S32x4x8x32_S32x4x8x32x1_0_1_2_3 (broadcastInDim S32x4x8x32 ![0, 1, 2, 3] bcast_S32x1x8x1_S32x4x8x32_0_1_2_3 (select (cmpi .slt A (broadcastInDim S32x1x8x1 ![] bcast_S_S32x1x8x1 (constantI S_ 32 0#32))) (addi A (broadcastInDim S32x1x8x1 ![] bcast_S_S32x1x8x1 (constantI S_ 32 32#32))) A)))⟩, ⟨S32x4x8x32x1, (broadcastInDim S32x4x8x32x1 ![0, 1, 2, 3] bcast_S32x4x8x32_S32x4x8x32x1_0_1_2_3 (broadcastInDim S32x4x8x32 ![0, 1, 2, 3] bcast_S1x4x1x32_S32x4x8x32_0_1_2_3 (select (cmpi .slt B (broadcastInDim S1x4x1x32 ![] bcast_S_S1x4x1x32 (constantI S_ 32 0#32))) (addi B (broadcastInDim S1x4x1x32 ![] bcast_S_S1x4x1x32 (constantI S_ 32 64#32))) B)))⟩] concatenates_S32x4x8x32x1_S32x4x8x32x1_S32x4x8x32x2_d4

/-- The row half of a pair of indices is the row, where it is not negative. -/
theorem keyIndex_row (A : IVec S32x1x8x1 32) (B : IVec S1x4x1x32 32) (r : Fin 32) (n : Fin 4) (i : Fin 8) (k : Fin 32)
    (x : Fin 32) (hx : A (ix4 r 0 i 0) = BitVec.ofNat 32 x) : keyIndex A B (ix5 r n i k 0) = BitVec.ofNat 32 x := by
  have h : ∀ C, C = BitVec.ofNat 32 x → keyIndex A B (ix5 r n i k 0) = C := by
    intro C hC
    pointwise [keyIndex]
    subst hC; rw [hx]; clear hx; revert x; decide +kernel
  exact h _ rfl

/-- The column half of a pair of indices is the column, where it is not negative. -/
theorem keyIndex_col (A : IVec S32x1x8x1 32) (B : IVec S1x4x1x32 32) (r : Fin 32) (n : Fin 4) (i : Fin 8) (k : Fin 32)
    (x : Fin 64) (hx : B (ix4 0 n 0 k) = BitVec.ofNat 32 x) : keyIndex A B (ix5 r n i k 1) = BitVec.ofNat 32 x := by
  have h : ∀ C, C = BitVec.ofNat 32 x → keyIndex A B (ix5 r n i k 1) = C := by
    intro C hC
    pointwise [keyIndex]
    subst hC; rw [hx]; clear hx; revert x; decide +kernel
  exact h _ rfl

/-- The bias rows and columns of every query and key, as pairs. -/
def biasIndex (A : IVec S32x1x1x8x1 32) (B : IVec S1x4x16x1x32 32) : IVec S32x4x16x8x32x2 32 :=
  concatenate S32x4x16x8x32x2 5 [⟨S32x4x16x8x32x1, (broadcastInDim S32x4x16x8x32x1 ![0, 1, 2, 3, 4] bcast_S32x4x16x8x32_S32x4x16x8x32x1_0_1_2_3_4 (broadcastInDim S32x4x16x8x32 ![0, 1, 2, 3, 4] bcast_S32x1x1x8x1_S32x4x16x8x32_0_1_2_3_4 (select (cmpi .slt A (broadcastInDim S32x1x1x8x1 ![] bcast_S_S32x1x1x8x1 (constantI S_ 32 0#32))) (addi A (broadcastInDim S32x1x1x8x1 ![] bcast_S_S32x1x1x8x1 (constantI S_ 32 15#32))) A)))⟩, ⟨S32x4x16x8x32x1, (broadcastInDim S32x4x16x8x32x1 ![0, 1, 2, 3, 4] bcast_S32x4x16x8x32_S32x4x16x8x32x1_0_1_2_3_4 (broadcastInDim S32x4x16x8x32 ![0, 1, 2, 3, 4] bcast_S1x4x16x1x32_S32x4x16x8x32_0_1_2_3_4 (select (cmpi .slt B (broadcastInDim S1x4x16x1x32 ![] bcast_S_S1x4x16x1x32 (constantI S_ 32 0#32))) (addi B (broadcastInDim S1x4x16x1x32 ![] bcast_S_S1x4x16x1x32 (constantI S_ 32 31#32))) B)))⟩] concatenates_S32x4x16x8x32x1_S32x4x16x8x32x1_S32x4x16x8x32x2_d5

/-- The row half of a pair of bias indices is the row, where it is not negative. -/
theorem biasIndex_row (A : IVec S32x1x1x8x1 32) (B : IVec S1x4x16x1x32 32) (r : Fin 32) (n : Fin 4) (q : Fin 16) (i : Fin 8) (k : Fin 32)
    (x : Fin 15) (hx : A (ix5 r 0 0 i 0) = BitVec.ofNat 32 x) : biasIndex A B (ix6 r n q i k 0) = BitVec.ofNat 32 x := by
  have h : ∀ C, C = BitVec.ofNat 32 x → biasIndex A B (ix6 r n q i k 0) = C := by
    intro C hC
    pointwise [biasIndex]
    subst hC; rw [hx]; clear hx; revert x; decide +kernel
  exact h _ rfl

/-- The column half of a pair of bias indices is the column, where it is not negative. -/
theorem biasIndex_col (A : IVec S32x1x1x8x1 32) (B : IVec S1x4x16x1x32 32) (r : Fin 32) (n : Fin 4) (q : Fin 16) (i : Fin 8) (k : Fin 32)
    (x : Fin 31) (hx : B (ix5 0 n q 0 k) = BitVec.ofNat 32 x) : biasIndex A B (ix6 r n q i k 1) = BitVec.ofNat 32 x := by
  have h : ∀ C, C = BitVec.ofNat 32 x → biasIndex A B (ix6 r n q i k 1) = C := by
    intro C hC
    pointwise [biasIndex]
    subst hC; rw [hx]; clear hx; revert x; decide +kernel
  exact h _ rfl

/-- The queries by row, tile of columns, column, head and lane. -/
theorem queries_apply (X : FVec Ideal S16x2048x1536 .f32) (b : Fin 16) (r : Fin 32) (n : Fin 4) (q : Fin 16) (h : Fin 8) (d : Fin 64) :
    shapeCast S16x32x4x16x8x64 (shapeCast S16x2048x8x64 (extractStridedSlice S16x2048x512 ![0, 0, 0] X slices_S16x2048x1536_S16x2048x512_0_0_0) shapeCasts_S16x2048x512_S16x2048x8x64) shapeCasts_S16x2048x8x64_S16x32x4x16x8x64 (ix6 b r n q h d)
      = X (ix3 b ⟨(r : ℕ) * 64 + n * 16 + q, by omega⟩ ⟨(h : ℕ) * 64 + d, by omega⟩) := by
  pointwise

/-- The keys by row, column, head and lane. -/
theorem keys_apply (X : FVec Ideal S16x2048x1536 .f32) (b : Fin 16) (r : Fin 32) (c : Fin 64) (h : Fin 8) (d : Fin 64) :
    shapeCast S16x32x64x8x64 (shapeCast S16x2048x8x64 (extractStridedSlice S16x2048x512 ![0, 0, 512] X slices_S16x2048x1536_S16x2048x512_0_0_512) shapeCasts_S16x2048x512_S16x2048x8x64) shapeCasts_S16x2048x8x64_S16x32x64x8x64 (ix5 b r c h d)
      = X (ix3 b ⟨(r : ℕ) * 64 + c, by omega⟩ ⟨512 + ((h : ℕ) * 64 + d), by omega⟩) := by
  pointwise

/-- The values by row, column, head and lane. -/
theorem values_apply (X : FVec Ideal S16x2048x1536 .f32) (b : Fin 16) (r : Fin 32) (c : Fin 64) (h : Fin 8) (d : Fin 64) :
    shapeCast S16x32x64x8x64 (shapeCast S16x2048x8x64 (extractStridedSlice S16x2048x512 ![0, 0, 1024] X slices_S16x2048x1536_S16x2048x512_0_0_1024) shapeCasts_S16x2048x512_S16x2048x8x64) shapeCasts_S16x2048x8x64_S16x32x64x8x64 (ix5 b r c h d)
      = X (ix3 b ⟨(r : ℕ) * 64 + c, by omega⟩ ⟨1024 + ((h : ℕ) * 64 + d), by omega⟩) := by
  pointwise

/-- The result at a token and a column, from the array by tiles. -/
theorem result_apply (y : FVec Ideal S16x32x4x8x64x16 .f32) (b : Fin 16) (r : Fin 32) (q : Fin 64) (col : Fin 512) :
    shapeCast S16x2048x512 (transpose S16x32x4x16x8x64 [0, 1, 2, 5, 3, 4] y transposes_S16x32x4x8x64x16_S16x32x4x16x8x64_0_1_2_5_3_4) shapeCasts_S16x32x4x16x8x64_S16x2048x512 (ix3 b ⟨(r : ℕ) * 64 + q, by omega⟩ col)
      = y (ix6 b r ⟨(q : ℕ) / 16, by omega⟩ ⟨(col : ℕ) / 64, by omega⟩ ⟨(col : ℕ) % 64, by omega⟩ ⟨(q : ℕ) % 16, by omega⟩) := by
  have e1 : ((r : ℕ) * 64 + q) / 16 % 4 = (q : ℕ) / 16 := by omega
  have e2 : ((r : ℕ) * 64 + q) % 16 = (q : ℕ) % 16 := by omega
  pointwise
  simp only [e1, e2]
end Cert.ReferenceIdeal.Value
end
-- ==== Proof.RefValue.lean ====
module
public import proofs.«01_k».proof.Proof.RefRead
@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Softmax
variable (V0 : Valuation τ sig (Elt Ideal))

/-- The first key row of a query row. -/
def keyRow (r : ℕ) : ℕ := min (r - 4) 24
/-- The first key column that a tile of 16 query columns reads. -/
def tileCol (n : ℕ) : ℕ := min (16 * n - 8) 32

/-- The mask of a tile's keys, read. -/
theorem mask_apply (b : Fin 16) (h : Fin 8) (r : Fin 32) (n : Fin 4) (q : Fin 16) (i : Fin 8) (k : Fin 32) :
    (broadcastInDim S16x8x32x4x16x8x32 ![3, 4, 5, 6] bcast_S4x16x1x32_S16x8x32x4x16x8x32_3_4_5_6 (broadcastInDim S4x16x1x32 ![0, 1, 3] bcast_S4x16x32_S4x16x1x32_0_1_3 (andi (cmpi .sge (broadcastInDim S4x16x32 ![0, 1, 2] bcast_S4x1x32_S4x16x32_0_1_2 (res_main_v28 V0)) (broadcastInDim S4x16x32 ![0, 1, 2] bcast_S4x16x1_S4x16x32_0_1_2 (broadcastInDim S4x16x1 ![0, 1] bcast_S4x16_S4x16x1_0_1 (res_main_v27 V0)))) (cmpi .slt (broadcastInDim S4x16x32 ![0, 1, 2] bcast_S4x1x32_S4x16x32_0_1_2 (res_main_v28 V0)) (broadcastInDim S4x16x32 ![0, 1, 2] bcast_S4x16x1_S4x16x32_0_1_2 (addi (broadcastInDim S4x16x1 ![0, 1] bcast_S4x16_S4x16x1_0_1 (res_main_v27 V0)) (broadcastInDim S4x16x1 ![] bcast_S_S4x16x1 (constantI S_ 32 16#32)))))))) (ix7 b h r n q i k)
      = if min (16 * (n : ℕ) + q - 8) 48 ≤ tileCol n + k ∧ tileCol n + k < min (16 * (n : ℕ) + q - 8) 48 + 16 then 1#1 else 0#1 := by
  have hh : ∀ C, C = (if min (16 * (n : ℕ) + q - 8) 48 ≤ tileCol n + k ∧ tileCol n + k < min (16 * (n : ℕ) + q - 8) 48 + 16 then 1#1 else 0#1) →
    (broadcastInDim S16x8x32x4x16x8x32 ![3, 4, 5, 6] bcast_S4x16x1x32_S16x8x32x4x16x8x32_3_4_5_6 (broadcastInDim S4x16x1x32 ![0, 1, 3] bcast_S4x16x32_S4x16x1x32_0_1_3 (andi (cmpi .sge (broadcastInDim S4x16x32 ![0, 1, 2] bcast_S4x1x32_S4x16x32_0_1_2 (res_main_v28 V0)) (broadcastInDim S4x16x32 ![0, 1, 2] bcast_S4x16x1_S4x16x32_0_1_2 (broadcastInDim S4x16x1 ![0, 1] bcast_S4x16_S4x16x1_0_1 (res_main_v27 V0)))) (cmpi .slt (broadcastInDim S4x16x32 ![0, 1, 2] bcast_S4x1x32_S4x16x32_0_1_2 (res_main_v28 V0)) (broadcastInDim S4x16x32 ![0, 1, 2] bcast_S4x16x1_S4x16x32_0_1_2 (addi (broadcastInDim S4x16x1 ![0, 1] bcast_S4x16_S4x16x1_0_1 (res_main_v27 V0)) (broadcastInDim S4x16x1 ![] bcast_S_S4x16x1 (constantI S_ 32 16#32)))))))) (ix7 b h r n q i k) = C := by
    intro C hC
    pointwise [res_main_v28]
    rw [v27, v25]
    subst hC; show @Eq (BitVec 1) _ _; revert n q k; unfold tileCol; decide +kernel
  exact hh _ rfl

/-- The biases, read. -/
theorem bias_apply (B : S8x15x31.Idx → EReal) (b : Fin 16) (h : Fin 8) (r : Fin 32) (n : Fin 4) (q : Fin 16) (i : Fin 8) (k : Fin 32) :
    broadcastInDim S16x8x32x4x16x8x32 ![0, 1, 2, 3, 4, 5, 6] bcast_S1x8x32x4x16x8x32_S16x8x32x4x16x8x32_0_1_2_3_4_5_6 (broadcastInDim S1x8x32x4x16x8x32 ![1, 2, 3, 4, 5, 6] bcast_S8x32x4x16x8x32_S1x8x32x4x16x8x32_1_2_3_4_5_6 (Host.gather gather_S8x15x31_S32x4x16x8x32x2_S8x32x4x16x8x32_0_12_n_n_12_5_811 B (biasIndex (res_main_v103 V0) (res_main_v104 V0)))) (ix7 b h r n q i k)
      = B (ix3 h ⟨keyRow r + i + 7 - r, by unfold keyRow; omega⟩ ⟨min (tileCol n + k + 15 - (16 * n + q)) 30, by omega⟩) := by
  rw [broadcastInDim_apply _ _ _ _ (ix7 0 h r n q i k), broadcastInDim_apply _ _ _ _ (ix6 h r n q i k)]
  · exact biasWindow_apply B _ h r n q i k _ _
      (biasIndex_row _ _ r n q i k ⟨keyRow r + i + 7 - r, by unfold keyRow; omega⟩ (v103 V0 r i))
      (biasIndex_col _ _ r n q i k ⟨min (tileCol n + k + 15 - (16 * n + q)) 30, by omega⟩ (v104 V0 n q k))
  · intro a
    fin_cases a <;> rfl
  · intro a
    fin_cases a <;> rfl

/-- A window of keys or values, read. -/
theorem rows_apply (x : S16x32x64x8x64.Idx → EReal) (b : Fin 16) (h : Fin 8) (r : Fin 32) (n : Fin 4) (i : Fin 8) (k : Fin 32) (d : Fin 64) :
    Host.gather gather_S16x32x64x8x64_S32x4x8x32x2_S16x32x4x8x32x8x64_056_12_n_n_12_4_1611864 x (keyIndex (res_main_v66 V0) (res_main_v67 V0)) (ix7 b r n i k h d)
      = x (ix5 b ⟨keyRow r + i, by unfold keyRow; omega⟩ ⟨tileCol n + k, by unfold tileCol; omega⟩ h d) := by
  refine window_apply x _ b h r n i k d _ _
    (keyIndex_row _ _ r n i k ⟨keyRow r + i, by unfold keyRow; omega⟩ ?_)
    (keyIndex_col _ _ r n i k ⟨tileCol n + k, by unfold tileCol; omega⟩ ?_)
  · refine Eq.trans ?_ (v58 V0 r i)
    unfold res_main_v66
    exact broadcastInDim_apply _ _ _ _ (ix2 r i) (fun a => by fin_cases a <;> rfl)
  · refine Eq.trans ?_ (v25 V0 n k)
    unfold res_main_v67
    exact broadcastInDim_apply _ _ _ _ (ix2 n k) (fun a => by fin_cases a <;> rfl)

/-- The argument of queries, keys and values. -/
def tokens : S16x2048x1536.Idx → EReal := V0 (Proc.devRef .tc main_arg0)
/-- The argument of biases. -/
def biases : S8x15x31.Idx → EReal := V0 (Proc.devRef .tc main_arg1)

/-- One score of the reference. -/
def refScore (X : S16x2048x1536.Idx → EReal) (B : S8x15x31.Idx → EReal) (b : Fin 16) (h : Fin 8) (r : Fin 32) (n : Fin 4) (q : Fin 16) (i : Fin 8) (k : Fin 32) : EReal :=
  if min (16 * (n : ℕ) + q - 8) 48 ≤ tileCol n + k ∧ tileCol n + k < min (16 * (n : ℕ) + q - 8) 48 + 16 then
    (∑ d : Fin 64, X (ix3 b ⟨(r : ℕ) * 64 + n * 16 + q, by omega⟩ ⟨(h : ℕ) * 64 + d, by omega⟩)
      * X (ix3 b ⟨(keyRow r + i) * 64 + (tileCol n + k), by unfold keyRow tileCol; omega⟩ ⟨512 + ((h : ℕ) * 64 + d), by omega⟩))
    + B (ix3 h ⟨keyRow r + i + 7 - r, by unfold keyRow; omega⟩ ⟨min (tileCol n + k + 15 - (16 * n + q)) 30, by omega⟩)
  else ⊥

/-- The reference's masked scores, read. -/
theorem v125_apply (b : Fin 16) (h : Fin 8) (r : Fin 32) (n : Fin 4) (q : Fin 16) (i : Fin 8) (k : Fin 32) :
    (res_main_v125 V0 : S16x8x32x4x16x8x32.Idx → EReal) (ix7 b h r n q i k) = refScore (tokens V0) (biases V0) b h r n q i k := by
  have hbot : Ideal.ofBits FTy.f32 0xFF800000#32 = (⊥ : EReal) := by simp [Ideal.ofBits, Ideal.ieee]
  have e : ∀ (m m' : BitVec 1) (x x' y y' z z' : EReal), m = m' → x = x' → y = y' → z = z' →
      Scalar.select m (x + y) z = Scalar.select m' (x' + y') z' := by
    rintro _ _ _ _ _ _ _ _ rfl rfl rfl rfl
    rfl
  refine (e _ _ _ _ _ _ _ _ (mask_apply V0 b h r n q i k) (scores_apply _ _ b h r n q i k)
    (bias_apply V0 (biases V0) b h r n q i k) hbot).trans ?_
  have hs : (∑ d : Fin 64, ((shapeCast S16x32x4x16x8x64 (shapeCast S16x2048x8x64 (extractStridedSlice S16x2048x512 ![0, 0, 0] (res_main_v0 V0) slices_S16x2048x1536_S16x2048x512_0_0_0) shapeCasts_S16x2048x512_S16x2048x8x64) shapeCasts_S16x2048x8x64_S16x32x4x16x8x64 (ix6 b r n q h d) : EReal)
      * Host.gather gather_S16x32x64x8x64_S32x4x8x32x2_S16x32x4x8x32x8x64_056_12_n_n_12_4_1611864 (shapeCast S16x32x64x8x64 (shapeCast S16x2048x8x64 (extractStridedSlice S16x2048x512 ![0, 0, 512] (res_main_v0 V0) slices_S16x2048x1536_S16x2048x512_0_0_512) shapeCasts_S16x2048x512_S16x2048x8x64) shapeCasts_S16x2048x8x64_S16x32x64x8x64) (keyIndex (res_main_v66 V0) (res_main_v67 V0)) (ix7 b r n i k h d) : EReal))
      = ∑ d : Fin 64, tokens V0 (ix3 b ⟨(r : ℕ) * 64 + n * 16 + q, by omega⟩ ⟨(h : ℕ) * 64 + d, by omega⟩)
      * tokens V0 (ix3 b ⟨(keyRow r + i) * 64 + (tileCol n + k), by unfold keyRow tileCol; omega⟩ ⟨512 + ((h : ℕ) * 64 + d), by omega⟩) := by
    refine Finset.sum_congr rfl fun d _ => ?_
    rw [queries_apply, rows_apply, keys_apply]
    rfl
  unfold refScore
  refine (congrArg (fun S : EReal => Scalar.select _ (S + _) _) hs).trans ?_
  split <;> rfl

/-- The largest of minus infinity and an array's entry is the entry. -/
theorem top_apply (x : FVec Ideal S16x8x32x4x16 .f32) (b : Fin 16) (h : Fin 8) (r : Fin 32) (n : Fin 4) (q : Fin 16) :
    maximumf (broadcastInDim S16x8x32x4x16 ![] bcast_S_S16x8x32x4x16 (constant (F := Ideal) S_ .f32 0xFF800000#32)) x (ix5 b h r n q)
      = x (ix5 b h r n q) := by
  have hbot : Ideal.ofBits FTy.f32 0xFF800000#32 = (⊥ : EReal) := by simp [Ideal.ofBits, Ideal.ieee]
  pointwise
  rw [hbot]
  exact max_eq_right bot_le

/-- The weight of a score: the exponential of its distance from a bound that the keys share. -/
theorem weight_apply (x : FVec Ideal S16x8x32x4x16x8x32 .f32) (y : FVec Ideal S16x8x32x4x16 .f32) (b : Fin 16) (h : Fin 8) (r : Fin 32) (n : Fin 4) (q : Fin 16) (i : Fin 8) (k : Fin 32) :
    Host.exp (subf x (broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 y))) (ix7 b h r n q i k)
      = Ideal.exp ((x (ix7 b h r n q i k) : EReal) - (y (ix5 b h r n q) : EReal)) := by
  rw [← keep_apply y b h r n q i k]
  generalize (broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 y)) = z
  rfl

/-- A weight over the sum of the weights, at an index. -/
theorem share_apply (x : FVec Ideal S16x8x32x4x16x8x32 .f32) (y : FVec Ideal S16x8x32x4x16 .f32) (b : Fin 16) (h : Fin 8) (r : Fin 32) (n : Fin 4) (q : Fin 16) (i : Fin 8) (k : Fin 32) :
    Host.divf x (broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 y)) (ix7 b h r n q i k)
      = Ideal.div (x (ix7 b h r n q i k) : EReal) (y (ix5 b h r n q) : EReal) := by
  rw [← keep_apply y b h r n q i k]
  generalize (broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 y)) = z
  rfl

/-- The narrowed result at a token and a column. -/
theorem narrowed_apply (y : FVec Ideal S16x32x4x8x64x16 .f32) (b : Fin 16) (r : Fin 32) (q : Fin 64) (col : Fin 512) :
    truncf .bf16 (shapeCast S16x2048x512 (transpose S16x32x4x16x8x64 [0, 1, 2, 5, 3, 4] y transposes_S16x32x4x8x64x16_S16x32x4x16x8x64_0_1_2_5_3_4) shapeCasts_S16x32x4x16x8x64_S16x2048x512) bitsLt_bf16_f32 (ix3 b ⟨(r : ℕ) * 64 + q, by omega⟩ col)
      = y (ix6 b r ⟨(q : ℕ) / 16, by omega⟩ ⟨(col : ℕ) / 64, by omega⟩ ⟨(col : ℕ) % 64, by omega⟩ ⟨(q : ℕ) % 16, by omega⟩) := by
  rw [← result_apply y b r q col]
  rfl

/-- A query's weights before they are normalised, read. -/
theorem v132_apply (b : Fin 16) (h : Fin 8) (r : Fin 32) (n : Fin 4) (q : Fin 16) (i : Fin 8) (k : Fin 32) :
    (res_main_v132 V0 : S16x8x32x4x16x8x32.Idx → EReal) (ix7 b h r n q i k)
      = Ideal.exp (refScore (tokens V0) (biases V0) b h r n q i k
        - Finset.univ.fold max ⊥ fun p : Fin 8 × Fin 32 => refScore (tokens V0) (biases V0) b h r n q p.1 p.2) := by
  unfold res_main_v132
  refine (weight_apply _ _ b h r n q i k).trans ?_
  have ef : (fun p : Fin 8 × Fin 32 => (res_main_v125 V0 : S16x8x32x4x16x8x32.Idx → EReal) (ix7 b h r n q p.1 p.2))
      = fun p => refScore (tokens V0) (biases V0) b h r n q p.1 p.2 := funext fun p => v125_apply V0 b h r n q p.1 p.2
  rw [top_apply, rowMax_apply, v125_apply, ef]

/-- The values weighted by their shares, by tiles. -/
def mixed {F : FTy → Type} [FloatOps F] (V0 : Valuation τ sig (Elt F)) : FVec F S16x32x4x8x64x16 .f32 :=
  (Host.dotGeneral dot_S16x32x4x8x32x8x64_S16x8x32x4x16x8x32_S16x32x4x8x64x16_34_56_6_4_0125_0231 none (Host.gather gather_S16x32x64x8x64_S32x4x8x32x2_S16x32x4x8x32x8x64_056_12_n_n_12_4_1611864 (shapeCast _ (shapeCast _ (extractStridedSlice S16x2048x512 ![0, 0, 1024] (res_main_v0 V0) slices_S16x2048x1536_S16x2048x512_0_0_1024) shapeCasts_S16x2048x512_S16x2048x8x64) shapeCasts_S16x2048x8x64_S16x32x64x8x64) (concatenate S32x4x8x32x2 4 [⟨S32x4x8x32x1, (broadcastInDim S32x4x8x32x1 ![0, 1, 2, 3] bcast_S32x4x8x32_S32x4x8x32x1_0_1_2_3 (broadcastInDim S32x4x8x32 ![0, 1, 2, 3] bcast_S32x1x8x1_S32x4x8x32_0_1_2_3 (select (cmpi .slt (res_main_v84 V0) (broadcastInDim S32x1x8x1 ![] bcast_S_S32x1x8x1 (constantI S_ 32 0#32))) (addi (res_main_v84 V0) (broadcastInDim S32x1x8x1 ![] bcast_S_S32x1x8x1 (constantI S_ 32 32#32))) (res_main_v84 V0))))⟩, ⟨S32x4x8x32x1, (broadcastInDim S32x4x8x32x1 ![0, 1, 2, 3] bcast_S32x4x8x32_S32x4x8x32x1_0_1_2_3 (broadcastInDim S32x4x8x32 ![0, 1, 2, 3] bcast_S1x4x1x32_S32x4x8x32_0_1_2_3 (select (cmpi .slt (res_main_v85 V0) (broadcastInDim S1x4x1x32 ![] bcast_S_S1x4x1x32 (constantI S_ 32 0#32))) (addi (res_main_v85 V0) (broadcastInDim S1x4x1x32 ![] bcast_S_S1x4x1x32 (constantI S_ 32 64#32))) (res_main_v85 V0))))⟩] concatenates_S32x4x8x32x1_S32x4x8x32x1_S32x4x8x32x2_d4)) (Host.divf (res_main_v132 V0) (broadcastInDim S16x8x32x4x16x8x32 ![0, 1, 2, 3, 4, 5, 6] bcast_S16x8x32x4x16x1x1_S16x8x32x4x16x8x32_0_1_2_3_4_5_6 (broadcastInDim S16x8x32x4x16x1x1 ![0, 1, 2, 3, 4] bcast_S16x8x32x4x16_S16x8x32x4x16x1x1_0_1_2_3_4 (Host.reduceAdd (res_main_v132 V0) (constant S_ .f32 0x00000000#32) reducesTo_S16x8x32x4x16x8x32_S16x8x32x4x16_d5_6 h_S_)))))

/-- The printed result. -/
def result {F : FTy → Type} [FloatOps F] (V0 : Valuation τ sig (Elt F)) : (Proc.devRef .tc main_v140 : DevRef τ sig).ty.Contents (Elt F) :=
  truncf .bf16 (shapeCast _ (transpose S16x32x4x16x8x64 [0, 1, 2, 5, 3, 4] (mixed V0) transposes_S16x32x4x8x64x16_S16x32x4x16x8x64_0_1_2_5_3_4) shapeCasts_S16x32x4x16x8x64_S16x2048x512) bitsLt_bf16_f32

/-- The reference's result at a token and a column: attention of the head over the window of the token's tile. -/
theorem result_eq (b : Fin 16) (r : Fin 32) (q : Fin 64) (col : Fin 512) :
    (result V0 : S16x2048x512.Idx → EReal) (ix3 b ⟨(r : ℕ) * 64 + q, by omega⟩ col)
      = rowNormalized (ι := Fin 8 × Fin 32)
        (fun p => refScore (tokens V0) (biases V0) b ⟨(col : ℕ) / 64, by omega⟩ r ⟨(q : ℕ) / 16, by omega⟩ ⟨(q : ℕ) % 16, by omega⟩ p.1 p.2)
        (fun p => tokens V0 (ix3 b ⟨(keyRow r + p.1) * 64 + (tileCol ((q : ℕ) / 16) + p.2), by unfold keyRow tileCol; omega⟩ ⟨1024 + (col : ℕ), by omega⟩)) := by
  refine (narrowed_apply (mixed V0) b r q col).trans ?_
  unfold mixed
  rw [out_apply]
  unfold rowNormalized
  refine Finset.sum_congr rfl fun p _ => ?_
  rw [mul_comm]
  have ev : (Host.gather gather_S16x32x64x8x64_S32x4x8x32x2_S16x32x4x8x32x8x64_056_12_n_n_12_4_1611864 (shapeCast S16x32x64x8x64 (shapeCast S16x2048x8x64 (extractStridedSlice S16x2048x512 ![0, 0, 1024] (res_main_v0 V0) slices_S16x2048x1536_S16x2048x512_0_0_1024) shapeCasts_S16x2048x512_S16x2048x8x64) shapeCasts_S16x2048x8x64_S16x32x64x8x64) (keyIndex (res_main_v66 V0) (res_main_v67 V0)) (ix7 b r (⟨(q : ℕ) / 16, by omega⟩ : Fin 4) p.1 p.2 (⟨(col : ℕ) / 64, by omega⟩ : Fin 8) (⟨(col : ℕ) % 64, by omega⟩ : Fin 64)) : EReal)
      = tokens V0 (ix3 b ⟨(keyRow r + p.1) * 64 + (tileCol ((q : ℕ) / 16) + p.2), by unfold keyRow tileCol; omega⟩ ⟨1024 + (col : ℕ), by omega⟩) := by
    rw [rows_apply, values_apply]
    have ec : (col : ℕ) / 64 * 64 + (col : ℕ) % 64 = col := by omega
    simp only [ec]
    rfl
  refine congrArg₂ (fun x y : EReal => x * y) ?_ ev
  rw [share_apply, rowSum_apply, v132_apply]
  exact congrArg (Ideal.div _) (Finset.sum_congr rfl fun p' _ => v132_apply V0 _ _ _ _ _ _ _)
end Cert.ReferenceIdeal.Value
end
-- ==== Proof.Equation.lean ====
module
public import proofs.«01_k».proof.Proof.KernelTable
public import proofs.«01_k».proof.Proof.RefValue
@[expose] public section
set_option maxRecDepth 16384
noncomputable section
open Idealize.ShloMosaic Idealize.ShloMosaic.TcCoe Idealize.SL.Sem
namespace Cert.Attention
open Cert.Softmax Cert.KernelIdeal Cert.KernelIdeal.Value
open Cert.ReferenceIdeal.Value (keyRow tileCol refScore)

/-- A row of attention over keys that are numbered in another way. -/
theorem row_equiv {ι κ : Type} [Fintype ι] [Fintype κ] (e : ι ≃ κ) (s v : κ → EReal) :
    row (fun i => s (e i)) (fun i => v (e i)) = row s v := by
  have hm : (Finset.univ.fold max ⊥ fun i => s (e i)) = Finset.univ.fold max ⊥ s := by
    rw [← Finset.map_univ_equiv e, Finset.fold_map]
    rfl
  unfold row
  rw [hm]
  exact congrArg₂ Ideal.div (Equiv.sum_comp e fun i => Ideal.exp (s i - _) * v i) (Equiv.sum_comp e fun i => Ideal.exp (s i - _))

/-- Equal places of the masked biases hold equal biases. -/
theorem maskedBias_congr (B : S8x15x31.Idx → EReal) {h h' : Fin 8} {r r' : Fin 15} {q q' c c' : Fin 64} (eh : (h : ℕ) = h')
    (er : (r : ℕ) = r') (eq : (q : ℕ) = q') (ec : (c : ℕ) = c') : maskedBias B h r q c = maskedBias B h' r' q' c' := by
  rw [Fin.ext eh, Fin.ext er, Fin.ext eq, Fin.ext ec]

variable (X : S16x2048x1536.Idx → EReal) (B : S8x15x31.Idx → EReal)

/-- One score of the kernel: a query and a key of the head, with the masked bias. -/
def kernScore (b : Fin 16) (h : Fin 8) (r : Fin 32) (q : Fin 64) (i : Fin 8) (c : Fin 64) : EReal :=
  (∑ d : Fin 64, X (ix3 b ⟨(r : ℕ) * 64 + q, by omega⟩ ⟨(h : ℕ) * 64 + d, by omega⟩)
    * X (ix3 b ⟨(firstRow r + i) * 64 + c, by unfold firstRow; omega⟩ ⟨512 + ((h : ℕ) * 64 + d), by omega⟩))
  + maskedBias B h ⟨7 - ((r : ℕ) - firstRow r) + i, by omega⟩ q c

/-- The kernel's output at a token and a column, over the key rows and columns. -/
theorem kernel_row (T : (⟨S8x4x128x512, .f32⟩ : BufTy).Contents (Elt Ideal))
    (hT : ∀ (d : Fin 8) (hp : Fin 4) (n : Fin 128) (key : Fin 512), T (ix4 d hp n key)
      = maskedBias B ⟨(hp : ℕ) * 2 + n / 64, by omega⟩ ⟨7 - (d : ℕ) + key / 64, by omega⟩ ⟨(n : ℕ) % 64, by omega⟩ ⟨(key : ℕ) % 64, by omega⟩)
    (b : Fin 16) (r : Fin 32) (q : Fin 64) (col : Fin 512) :
    attnAt X T b r q col = row (ι := Fin 8 × Fin 64) (fun p => kernScore X B b ⟨(col : ℕ) / 64, by omega⟩ r q p.1 p.2)
      (fun p => X (ix3 b ⟨(firstRow r + p.1) * 64 + p.2, by unfold firstRow; omega⟩ ⟨1024 + (col : ℕ), by omega⟩)) := by
  unfold attnAt attend
  rw [← row_equiv (finProdFinEquiv : Fin 8 × Fin 64 ≃ Fin 512)]
  refine congrArg₂ row (funext fun p => ?_) (funext fun p => ?_)
  · have hk : ((finProdFinEquiv p : Fin 512) : ℕ) = p.2 + 64 * p.1 := rfl
    refine congrArg₂ (fun x y : EReal => x + y) (Finset.sum_congr rfl fun d _ => congrArg₂ (fun x y : EReal => x * y)
      (congrArg X ?_) (congrArg X ?_)) ?_
    · exact congrArg (ix3 b _) (Fin.ext (by dsimp only; omega))
    · exact congrArg₂ (ix3 b) (Fin.ext (by dsimp only; omega)) (Fin.ext (by dsimp only; omega))
    · refine (hT _ _ _ _).trans ?_
      exact maskedBias_congr B (by dsimp only; omega) (by dsimp only; omega) (by dsimp only; omega) (by dsimp only; omega)
  · have hk : ((finProdFinEquiv p : Fin 512) : ℕ) = p.2 + 64 * p.1 := rfl
    exact congrArg X (congrArg₂ (ix3 b) (Fin.ext (by dsimp only; omega)) (Fin.ext (by dsimp only; omega)))

/-- A sum of products of real numbers is real. -/
theorem sum_real (f g : Fin 64 → EReal) (hf : ∀ d, ∃ a : ℝ, f d = a) (hg : ∀ d, ∃ a : ℝ, g d = a) :
    ∃ a : ℝ, ∑ d, f d * g d = a := by
  choose F hF using hf
  choose G hG using hg
  refine ⟨∑ d, F d * G d, ?_⟩
  have h : ∀ s : Finset (Fin 64), ∑ d ∈ s, f d * g d = ((∑ d ∈ s, F d * G d : ℝ) : EReal) := by
    intro s
    induction s using Finset.induction_on with
    | empty => simp
    | insert a s ha ih => rw [Finset.sum_insert ha, Finset.sum_insert ha, ih, hF, hG, EReal.coe_add, EReal.coe_mul]
  exact h _

/-- The two orders of attention agree at every token and column, when the queries, keys and biases are finite. -/
theorem attention_eq (hX : ∀ (b : Fin 16) (t : Fin 2048) (j : Fin 1536), (j : ℕ) < 1024 → ∃ a : ℝ, X (ix3 b t j) = a)
    (hB : ∀ i, ∃ a : ℝ, B i = a) (b : Fin 16) (r : Fin 32) (q : Fin 64) (col : Fin 512) :
    row (ι := Fin 8 × Fin 64) (fun p => kernScore X B b ⟨(col : ℕ) / 64, by omega⟩ r q p.1 p.2)
      (fun p => X (ix3 b ⟨(firstRow r + p.1) * 64 + p.2, by unfold firstRow; omega⟩ ⟨1024 + (col : ℕ), by omega⟩))
    = rowNormalized (ι := Fin 8 × Fin 32)
        (fun p => refScore X B b ⟨(col : ℕ) / 64, by omega⟩ r ⟨(q : ℕ) / 16, by omega⟩ ⟨(q : ℕ) % 16, by omega⟩ p.1 p.2)
        (fun p => X (ix3 b ⟨(keyRow r + p.1) * 64 + (tileCol ((q : ℕ) / 16) + p.2), by unfold keyRow tileCol; omega⟩ ⟨1024 + (col : ℕ), by omega⟩)) := by
  have hqk : ∀ (h : Fin 8) (i : Fin 8) (c : Fin 64), ∃ a : ℝ,
      (∑ d : Fin 64, X (ix3 b ⟨(r : ℕ) * 64 + q, by omega⟩ ⟨(h : ℕ) * 64 + d, by omega⟩)
        * X (ix3 b ⟨(firstRow r + i) * 64 + c, by unfold firstRow; omega⟩ ⟨512 + ((h : ℕ) * 64 + d), by omega⟩)) = a :=
    fun h i c => sum_real _ _ (fun d => hX _ _ _ (by dsimp only; omega)) (fun d => hX _ _ _ (by dsimp only; omega))
  have hfr : firstRow (r : ℕ) ≤ r ∧ (r : ℕ) - firstRow r < 8 := by unfold firstRow; omega
  have hin : firstCol q ≤ (q : ℕ) ∧ (q : ℕ) < firstCol q + 16 := by unfold firstCol; omega
  rw [row_eq_rowNormalized (fun i c => kernScore X B b ⟨(col : ℕ) / 64, by omega⟩ r q i c)
    (fun i c => X (ix3 b ⟨(firstRow r + i) * 64 + c, by unfold firstRow; omega⟩ ⟨1024 + (col : ℕ), by omega⟩))
    (tileCol ((q : ℕ) / 16)) (by unfold tileCol; omega) ?_ ?_ ⟨(r : ℕ) - firstRow r, hfr.2⟩ q ?_]
  · refine congrArg₂ rowNormalized (funext fun p => ?_) rfl
    unfold kernScore refScore maskedBias
    have hw : (min (16 * ((q : ℕ) / 16) + (q : ℕ) % 16 - 8) 48) = firstCol q := by unfold firstCol; omega
    dsimp only
    rw [hw]
    by_cases hv : firstCol q ≤ tileCol ((q : ℕ) / 16) + p.2 ∧ tileCol ((q : ℕ) / 16) + p.2 < firstCol q + 16
    · rw [if_pos hv, if_pos hv]
      refine congrArg₂ (fun x y : EReal => x + y) (Finset.sum_congr rfl fun d _ => congrArg₂ (fun x y : EReal => x * y)
        (congrArg X ?_) rfl) (congrArg B ?_)
      · exact congrArg₂ (ix3 b) (Fin.ext (by dsimp only; omega)) rfl
      · exact congrArg₂ (ix3 _) (Fin.ext (by dsimp only; unfold firstRow keyRow; omega)) (Fin.ext (by dsimp only; unfold biasCol; omega))
    · rw [if_neg hv, if_neg hv]
      exact EReal.add_bot _
  · intro i c hc
    unfold kernScore maskedBias
    rw [if_neg (by unfold firstCol; unfold tileCol at hc; omega)]
    exact EReal.add_bot _
  · intro i c
    obtain ⟨a, ha⟩ := hqk ⟨(col : ℕ) / 64, by omega⟩ i c
    unfold kernScore maskedBias
    rw [ha]
    split
    · obtain ⟨a', ha'⟩ := hB (ix3 ⟨(col : ℕ) / 64, by omega⟩ ⟨7 - ((r : ℕ) - firstRow r) + i, by omega⟩ ⟨biasCol q c, by unfold biasCol; omega⟩)
      rw [ha', ← EReal.coe_add]
      exact EReal.coe_ne_top _
    · rw [EReal.add_bot]
      exact bot_ne_top
  · obtain ⟨a, ha⟩ := hqk ⟨(col : ℕ) / 64, by omega⟩ ⟨(r : ℕ) - firstRow r, hfr.2⟩ q
    obtain ⟨a', ha'⟩ := hB (ix3 ⟨(col : ℕ) / 64, by omega⟩ ⟨7 - ((r : ℕ) - firstRow r) + ((r : ℕ) - firstRow r), by omega⟩ ⟨biasCol q q, by unfold biasCol; omega⟩)
    unfold kernScore maskedBias
    rw [ha, if_pos hin, ha', ← EReal.coe_add]
    exact EReal.coe_ne_bot _

end Cert.Attention
end
-- ==== Proof.AdaKernel.lean ====
/- The conditioning's kernel: what a block computes, and what its output array holds. -/
module

public import proofs.«01_k».proof.Proof.Gen.Kernel4Ideal.Frame
public import proofs.«01_k».proof.Proof.Gen.Kernel4Ideal.Value
public import Idealize.ShloMosaic.Lib.Pointwise
public import Idealize.ShloMosaic.Lib.Pipeline.ValueKit
public import Idealize.ShloMosaic.Lib.WholeRead
public import Idealize.ShloMosaic.Lib.StableHlo.ReadAt

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

/-- One entry of the conditioning: the row's swish against a column of the weights, and the column's bias. -/
def entry (x w : Fin 1024 → EReal) (b : EReal) : EReal := ∑ k, x k * Ideal.logistic (x k) * w k + b

/-- The block's entries. -/
theorem pay1_apply (x : Vec Ideal S16x1024 .f32) (w : Vec Ideal S1024x1024 .f32) (b : Vec Ideal S1x1024 .f32)
    (n : Fin 16) (j : Fin 1024) :
    k0_pay1 (F := Ideal) x w b (ix2 n j) = entry (fun k => x (ix2 n k)) (fun k => w (ix2 k j)) (b (ix2 0 j)) := by
  pointwise [k0_pay1]
  rfl

variable (m : (ℓ : Loc nD τ sig) → Buf (Elt Ideal) ℓ)

/-- The windows' block indices: point `t` is block `t` of the columns. -/
theorem idx : ∀ t : Fin cfg0.N, win0_0.index t = ![0, 0] ∧ win0_1.index t = ![0, (t : ℕ)]
    ∧ win0_2.index t = ![0, (t : ℕ)] ∧ win0_3.index t = ![0, (t : ℕ)] ∧ (t : ℕ) < 6 :=
  (by decide +kernel : ∀ t : Fin grid0.N, _)

/-- The conditioning as an array. -/
def adaArr (X : S16x1024.Idx → EReal) (W : S1024x6144.Idx → EReal) (B : S1x6144.Idx → EReal) (i : S16x6144.Idx) : EReal :=
  entry (fun k => X (ix2 (i 0) k)) (fun k => W (ix2 k (i 1))) (B (ix2 0 (i 1)))

/-- Window 0 reads all rows. -/
theorem iblk0 (c : Dev nD) (t : Fin cfg0.N) (n : Fin 16) (k : Fin 1024) : iblk m c 0 t (ix2 n k) = V m c main_arg0 (ix2 n k) := by
  blk_ext [iblk, V, idx t]

/-- Window 1 reads the block's columns of the weights. -/
theorem iblk1 (c : Dev nD) (t : Fin cfg0.N) (k j : Fin 1024) : iblk m c 1 t (ix2 k j)
    = V m c main_arg1 (ix2 k ⟨(t : ℕ) * 1024 + j, by have := (idx t).2.2.2.2; omega⟩) := by
  blk_ext [iblk, V, idx t]

/-- Window 2 reads the block's biases. -/
theorem iblk2 (c : Dev nD) (t : Fin cfg0.N) (j : Fin 1024) : iblk m c 2 t (ix2 0 j)
    = V m c main_v0 (ix2 0 ⟨(t : ℕ) * 1024 + j, by have := (idx t).2.2.2.2; omega⟩) := by
  blk_ext [iblk, idx t]

/-- The output's block at point `t`. -/
theorem emb3 (t : Fin cfg0.N) (n : Fin 16) (j : Fin 1024) : (win0_3.blk t).view.emb (ix2 n j : S16x1024.Idx)
    = (ix2 n ⟨(t : ℕ) * 1024 + j, by have := (idx t).2.2.2.2; omega⟩ : S16x6144.Idx) := by
  blk_ext [idx t]

/-- A load of all rows. -/
theorem ld_x (x : Vec Ideal S16x1024 .f32) (n : Fin 16) (k : Fin 1024) : View.ld x r0_0 (ix2 n k) = x (ix2 n k) := by
  refine congrArg x ?_
  ext a; fin_cases a
  · show 0 + 1 * (n : ℕ) = n; omega
  · show 0 + 1 * (k : ℕ) = k; omega

/-- A load of the block's weights. -/
theorem ld_w (x : Vec Ideal S1024x1024 .f32) (k j : Fin 1024) : View.ld x r0_1 (ix2 k j) = x (ix2 k j) := by
  refine congrArg x ?_
  ext a; fin_cases a
  · show 0 + 1 * (k : ℕ) = k; omega
  · show 0 + 1 * (j : ℕ) = j; omega

/-- A load of the block's biases. -/
theorem ld_b (x : Vec Ideal S1x1024 .f32) (j : Fin 1024) : View.ld x r0_2 (ix2 0 j) = x (ix2 0 j) := by
  refine congrArg x ?_
  ext a; fin_cases a
  · rfl
  · show 0 + 1 * (j : ℕ) = j; omega

/-- What the body leaves in the output's block. -/
theorem out3_apply (x0 : Vec Ideal S16x1024 .f32) (x1 : Vec Ideal S1024x1024 .f32) (x2 : Vec Ideal S1x1024 .f32) (n : Fin 16) (j : Fin 1024) :
    out0_3 x0 x1 x2 (ix2 n j) = entry (fun k => x0 (ix2 n k)) (fun k => x1 (ix2 k j)) (x2 (ix2 0 j)) := by
  unfold out0_3
  rw [View.canon_unit_zero (by funext a; fin_cases a <;> rfl)]
  refine (pay1_apply _ _ _ n j).trans ?_
  exact congr (congr (congrArg entry (funext fun k => ld_x x0 n k)) (funext fun k => ld_w x1 k j)) (ld_b x2 j)

/-- The output's block is its part of the array. -/
theorem point3 (c : Dev nD) (t : Fin cfg0.N) (y : S16x1024.Idx) :
    out0_3 (iblk m c 0 t) (iblk m c 1 t) (iblk m c 2 t) y
      = adaArr (V m c main_arg0) (V m c main_arg1) (V m c main_v0) ((win0_3.blk t).view.emb y) := by
  obtain ⟨n, j, rfl⟩ : ∃ (n : Fin 16) (j : Fin 1024), y = ix2 n j := ⟨y 0, y 1, by ext i; fin_cases i <;> rfl⟩
  rw [emb3]
  refine (out3_apply _ _ _ n j).trans ?_
  simp only [iblk0, iblk1, iblk2]
  rfl

/-- The output array. -/
theorem array3_eq (c : Dev nD) : (dats m 0 c).arrAt 3 cfg0.N
    = adaArr (V m c main_arg0) (V m c main_arg1) (V m c main_v0) := by
  refine (dats m 0 c).arrAt_eq_of_covers 3 _ (by decide +kernel) fun t _ y => ?_
  blk_simp
  rw [after0_3]
  exact point3 m c t y

/-- The biases as the region receives them. -/
theorem biases_eq (c : Dev nD) (j : Fin 6144) :
    V m c main_v0 (ix2 0 j) = (show S6144.Idx → EReal from m (c, Proc.devRef .tc main_arg2)) (ix1 j) := by
  unfold V
  have key : ∀ C : EReal, C = (show S6144.Idx → EReal from m (c, Proc.devRef .tc main_arg2)) (ix1 j) →
      StableHlo.after hostOps0 (fun b => m (c, b)) (Proc.devRef .tc main_v0) (ix2 0 j) = C := by
    intro C hC
    after_reads_at
    rw [hC]
  exact key _ rfl

end Cert.Kernel4Ideal.Value
end
-- ==== Proof.AdaEquation.lean ====
/- The conditioning: the kernel's array is the reference's result. -/
module

public import proofs.«01_k».proof.Proof.AdaKernel
public import proofs.«01_k».proof.Proof.Gen.Reference4Ideal.Run

@[expose] public section

set_option maxRecDepth 16384

noncomputable section

open Idealize.ShloMosaic Idealize.ShloMosaic.TcCoe Idealize.SL.Sem

namespace Cert.Reference4Ideal.Value

open Cert.Reference4Ideal Cert.Reference4Ideal.Gen

/-- The reference's conditioning. -/
def condArr (X : FVec Ideal S16x1024 .f32) (W : FVec Ideal S1024x6144 .f32) (B : FVec Ideal S6144 .f32) : FVec Ideal S16x6144 .f32 :=
  addf (Host.dotGeneral dot_S16x1024_S1024x6144_S16x6144_1_0_0_1_n_n none (mulf X (Host.divf (broadcastInDim S16x1024 ![] bcast_S_S16x1024 (constant S_ .f32 0x3F800000#32)) (addf (broadcastInDim S16x1024 ![] bcast_S_S16x1024 (constant S_ .f32 0x3F800000#32)) (Host.exp (Host.negf X))))) W) (broadcastInDim S16x6144 ![0, 1] bcast_S1x6144_S16x6144_0_1 (broadcastInDim S1x6144 ![1] bcast_S6144_S1x6144_1 B))

/-- The conditioning, read. -/
theorem condArr_apply (X : FVec Ideal S16x1024 .f32) (W : FVec Ideal S1024x6144 .f32) (B : FVec Ideal S6144 .f32) (n : Fin 16) (j : Fin 6144) :
    condArr X W B (ix2 n j) = Cert.Kernel4Ideal.Value.entry (fun k => X (ix2 n k)) (fun k => W (ix2 k j)) (B (ix1 j)) := by
  have key : ∀ C, C = Cert.Kernel4Ideal.Value.entry (fun k => X (ix2 n k)) (fun k => W (ix2 k j)) (B (ix1 j)) → condArr X W B (ix2 n j) = C := by
    intro C hC
    pointwise [condArr]
    rw [hC]
    rfl
  exact key _ rfl

end Cert.Reference4Ideal.Value

namespace Cert.Ada

open Cert.Kernel4Ideal Cert.Kernel4Ideal.Value

variable (m : (ℓ : Loc nD τ sig) → Buf (Elt Ideal) ℓ)
  (m' : (ℓ : Loc Cert.Reference4Ideal.nD Cert.Reference4Ideal.τ Cert.Reference4Ideal.sig) → Buf (Elt Ideal) ℓ)

/-- The reference's result, from memory that agrees with the kernel's on the arguments, is the kernel's array. -/
theorem result_eq (c : Dev nD)
    (h0 : m' ((c.tc : Thread Cert.Reference4Ideal.nD Cert.Reference4Ideal.τ).loc Cert.Reference4Ideal.main_arg0) = m ((c.tc : Thread nD τ).loc main_arg0))
    (h1 : m' ((c.tc : Thread Cert.Reference4Ideal.nD Cert.Reference4Ideal.τ).loc Cert.Reference4Ideal.main_arg1) = m ((c.tc : Thread nD τ).loc main_arg1))
    (h2 : m' ((c.tc : Thread Cert.Reference4Ideal.nD Cert.Reference4Ideal.τ).loc Cert.Reference4Ideal.main_arg2) = m ((c.tc : Thread nD τ).loc main_arg2)) :
    Cert.Reference4Ideal.Value.condArr (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      = (Cert.Kernel4Ideal.Gen.dats (F := Ideal) m 0 c).arrAt 3 cfg0.N := by
  rw [h0, h1, h2, array3_eq]
  funext i
  obtain ⟨n, j, rfl⟩ : ∃ (n : Fin 16) (j : Fin 6144), i = ix2 n j := ⟨i 0, i 1, by ext a; fin_cases a <;> rfl⟩
  refine (Cert.Reference4Ideal.Value.condArr_apply _ _ _ n j).trans ?_
  show _ = entry _ _ (Cert.Kernel4Ideal.Gen.V m c main_v0 (ix2 0 j))
  rw [biases_eq, Cert.Kernel4Ideal.Gen.V_main_arg0 m c, Cert.Kernel4Ideal.Gen.V_main_arg1 m c]
  rfl

end Cert.Ada
end
-- ==== Proof.FoldKernel.lean ====
/- The folded keys' kernel: what a block computes, and what its output array holds. -/
module

public import proofs.«01_k».proof.Proof.Gen.Kernel5Ideal.Frame
public import proofs.«01_k».proof.Proof.Gen.Kernel5Ideal.Value
public import Idealize.ShloMosaic.Lib.Pointwise
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

/-- The block's products of keys and query weights. -/
theorem pay1_apply (x : Vec Ideal S1x1x128x128 .f32) (w : Vec Ideal S1024x128 .f32) (n : Fin 128) (d : Fin 1024) :
    k0_pay1 (F := Ideal) x w (ix4 0 0 n d) = ∑ k, x (ix4 0 0 n k) * w (ix2 d k) := by
  pointwise [k0_pay1]

variable (m : (ℓ : Loc nD τ sig) → Buf (Elt Ideal) ℓ)

/-- The windows' block indices: point `t` is half `t % 2` of head `t / 2`. -/
theorem idx : ∀ t : Fin cfg0.N, win0_0.index t = ![(t : ℕ) / 2, (t : ℕ) % 2, 0, 0] ∧ win0_1.index t = ![0, (t : ℕ)]
    ∧ win0_2.index t = ![(t : ℕ) / 2, (t : ℕ) % 2, 0, 0] ∧ (t : ℕ) < 16 :=
  (by decide +kernel : ∀ t : Fin grid0.N, _)

/-- The folded keys as an array. -/
def foldArr (X : S8x2x128x128.Idx → EReal) (W : S1024x2048.Idx → EReal) (i : S8x2x128x1024.Idx) : EReal :=
  ∑ k : Fin 128, X (ix4 (i 0) (i 1) (i 2) k)
    * W (ix2 (i 3) ⟨((i 0 : ℕ) * 2 + (i 1 : ℕ)) * 128 + k, by
        have h0 := (i 0).isLt; have h1 := (i 1).isLt
        change (i 0 : ℕ) < 8 at h0; change (i 1 : ℕ) < 2 at h1; omega⟩)

/-- Window 0 reads the head's half of the keys. -/
theorem iblk0 (c : Dev nD) (t : Fin cfg0.N) (n k : Fin 128) : iblk m c 0 t (ix4 0 0 n k)
    = V m c main_arg0 (ix4 ⟨(t : ℕ) / 2, by have := (idx t).2.2.2; omega⟩ ⟨(t : ℕ) % 2, by omega⟩ n k) := by
  blk_ext [iblk, V, idx t]

/-- Window 1 reads the columns of the query weights of that half. -/
theorem iblk1 (c : Dev nD) (t : Fin cfg0.N) (d : Fin 1024) (k : Fin 128) : iblk m c 1 t (ix2 d k)
    = V m c main_arg1 (ix2 d ⟨(t : ℕ) * 128 + k, by have := (idx t).2.2.2; omega⟩) := by
  blk_ext [iblk, V, idx t]

/-- The output's block at point `t`. -/
theorem emb2 (t : Fin cfg0.N) (n : Fin 128) (d : Fin 1024) : (win0_2.blk t).view.emb (ix4 0 0 n d : S1x1x128x1024.Idx)
    = (ix4 ⟨(t : ℕ) / 2, by have := (idx t).2.2.2; omega⟩ ⟨(t : ℕ) % 2, by omega⟩ n d : S8x2x128x1024.Idx) := by
  blk_ext [idx t]

/-- A load of the block's keys. -/
theorem ld_x (x : Vec Ideal S1x1x128x128 .f32) (n k : Fin 128) : View.ld x r0_0 (ix4 0 0 n k) = x (ix4 0 0 n k) := by
  refine congrArg x ?_
  ext a; fin_cases a
  · rfl
  · rfl
  · show 0 + 1 * (n : ℕ) = n; omega
  · show 0 + 1 * (k : ℕ) = k; omega

/-- A load of the block's query weights. -/
theorem ld_w (x : Vec Ideal S1024x128 .f32) (d : Fin 1024) (k : Fin 128) : View.ld x r0_1 (ix2 d k) = x (ix2 d k) := by
  refine congrArg x ?_
  ext a; fin_cases a
  · show 0 + 1 * (d : ℕ) = d; omega
  · show 0 + 1 * (k : ℕ) = k; omega

/-- What the body leaves in the output's block. -/
theorem out2_apply (x0 : Vec Ideal S1x1x128x128 .f32) (x1 : Vec Ideal S1024x128 .f32) (n : Fin 128) (d : Fin 1024) :
    out0_2 x0 x1 (ix4 0 0 n d) = ∑ k, x0 (ix4 0 0 n k) * x1 (ix2 d k) := by
  unfold out0_2
  rw [View.canon_unit_zero (by funext a; fin_cases a <;> rfl)]
  refine (pay1_apply _ _ n d).trans ?_
  exact Finset.sum_congr rfl fun k _ => congrArg₂ (· * ·) (ld_x x0 n k) (ld_w x1 d k)

/-- The output's block is its part of the array. -/
theorem point2 (c : Dev nD) (t : Fin cfg0.N) (y : S1x1x128x1024.Idx) :
    out0_2 (iblk m c 0 t) (iblk m c 1 t) y = foldArr (V m c main_arg0) (V m c main_arg1) ((win0_2.blk t).view.emb y) := by
  obtain ⟨n, d, rfl⟩ : ∃ (n : Fin 128) (d : Fin 1024), y = ix4 0 0 n d :=
    ⟨y 2, y 3, by
      ext i
      have h0 := (y 0).isLt
      have h1 := (y 1).isLt
      change (y 0 : ℕ) < 1 at h0; change (y 1 : ℕ) < 1 at h1
      fin_cases i
      · show (y 0 : ℕ) = 0; omega
      · show (y 1 : ℕ) = 0; omega
      · rfl
      · rfl⟩
  rw [emb2]
  refine (out2_apply _ _ n d).trans ?_
  have h := (idx t).2.2.2
  unfold foldArr
  refine Finset.sum_congr rfl fun k _ => congrArg₂ (· * ·) (iblk0 m c t n k) ((iblk1 m c t d k).trans ?_)
  refine congrArg (V m c main_arg1) (congrArg (ix2 d) (Fin.ext ?_))
  show (t : ℕ) * 128 + k = ((t : ℕ) / 2 * 2 + (t : ℕ) % 2) * 128 + k
  omega

/-- The output array. -/
theorem array2_eq (c : Dev nD) : (dats m 0 c).arrAt 2 cfg0.N = foldArr (V m c main_arg0) (V m c main_arg1) := by
  refine (dats m 0 c).arrAt_eq_of_covers 2 _ (by decide +kernel) fun t _ y => ?_
  blk_simp
  rw [after0_2]
  exact point2 m c t y

end Cert.Kernel5Ideal.Value
end
-- ==== Proof.FoldEquation.lean ====
/- The folded keys: the kernel's array is the reference's result. -/
module

public import proofs.«01_k».proof.Proof.FoldKernel
public import proofs.«01_k».proof.Proof.Gen.Reference5Ideal.Run

@[expose] public section

set_option maxRecDepth 16384

noncomputable section

open Idealize.ShloMosaic Idealize.ShloMosaic.TcCoe Idealize.SL.Sem

namespace Cert.Reference5Ideal.Value

open Cert.Reference5Ideal Cert.Reference5Ideal.Gen

/-- The reference's folded keys. -/
def scoreArr (X : FVec Ideal S8x2x128x128 .f32) (W : FVec Ideal S1024x2048 .f32) : FVec Ideal S8x2x128x1024 .f32 :=
  Host.dotGeneral dot_S8x2x128x128_S1024x8x2x128_S8x2x128x1024_3_3_2_0_01_12 none X (shapeCast _ W shapeCasts_S1024x2048_S1024x8x2x128)

/-- The folded keys, read. -/
theorem scoreArr_apply (X : FVec Ideal S8x2x128x128 .f32) (W : FVec Ideal S1024x2048 .f32) (h : Fin 8) (p : Fin 2) (n : Fin 128) (d : Fin 1024) :
    scoreArr X W (ix4 h p n d) = ∑ k : Fin 128, X (ix4 h p n k) * W (ix2 d ⟨((h : ℕ) * 2 + p) * 128 + k, by omega⟩) := by
  pointwise [scoreArr]
  refine Finset.sum_congr rfl fun k _ => congrArg (X (ix4 h p n k) * ·) (congrArg W (congrArg (ix2 d) (Fin.ext ?_)))
  show (h : ℕ) * 256 + p * 128 + k = ((h : ℕ) * 2 + p) * 128 + k
  omega

end Cert.Reference5Ideal.Value

namespace Cert.Fold

open Cert.Kernel5Ideal Cert.Kernel5Ideal.Value

variable (m : (ℓ : Loc nD τ sig) → Buf (Elt Ideal) ℓ)
  (m' : (ℓ : Loc Cert.Reference5Ideal.nD Cert.Reference5Ideal.τ Cert.Reference5Ideal.sig) → Buf (Elt Ideal) ℓ)

/-- The reference's result, from memory that agrees with the kernel's on the arguments, is the kernel's array. -/
theorem result_eq (c : Dev nD)
    (h0 : m' ((c.tc : Thread Cert.Reference5Ideal.nD Cert.Reference5Ideal.τ).loc Cert.Reference5Ideal.main_arg0) = m ((c.tc : Thread nD τ).loc main_arg0))
    (h1 : m' ((c.tc : Thread Cert.Reference5Ideal.nD Cert.Reference5Ideal.τ).loc Cert.Reference5Ideal.main_arg1) = m ((c.tc : Thread nD τ).loc main_arg1)) :
    Cert.Reference5Ideal.Value.scoreArr (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      = (Cert.Kernel5Ideal.Gen.dats (F := Ideal) m 0 c).arrAt 2 cfg0.N := by
  rw [h0, h1, array2_eq]
  funext i
  obtain ⟨h, p, n, d, rfl⟩ : ∃ (h : Fin 8) (p : Fin 2) (n : Fin 128) (d : Fin 1024), i = ix4 h p n d :=
    ⟨i 0, i 1, i 2, i 3, by ext a; fin_cases a <;> rfl⟩
  exact Cert.Reference5Ideal.Value.scoreArr_apply _ _ h p n d

end Cert.Fold
end
-- ==== Proof.Finite.lean ====
module
public import proofs.«01_k».proof.Proof.Gen.Pre_finite_scores
public import Idealize.ShloMosaic.Lib.Pointwise
public import Idealize.ShloMosaic.Lib.ReduceAll
@[expose] public section
set_option maxRecDepth 16384
noncomputable section
open Idealize.ShloMosaic
namespace Cert.Pre_finite_scores
open Cert.Pre_finite_scores.Gen

/-- A number whose absolute value is below infinity is real. -/
theorem real_of_abs (x : EReal) (h : Ideal.cmp .olt (max x (-x)) ⊤ = 1#1) : ∃ a : ℝ, x = a := by
  induction x using EReal.rec with
  | bot => simp [Ideal.cmp] at h
  | coe a => exact ⟨a, rfl⟩
  | top => simp [Ideal.cmp] at h

/-- An array of no axes has one index. -/
instance : Subsingleton S_.Idx := ⟨fun i j => funext fun a => a.elim0⟩

/-- The precondition's two parts, each of every element. -/
theorem parts (X : S16x2048x1536.Idx → EReal) (B : S8x15x31.Idx → EReal) (h : fn (F := Ideal) X B = fun _ => 1#1) :
    (∀ (b : Fin 16) (t : Fin 2048) (j : Fin 1536), (j : ℕ) < 1024 → ∃ a : ℝ, X (ix3 b t j) = a) ∧ ∀ i, ∃ a : ℝ, B i = a := by
  have h0 := congrFun h ix0
  obtain ⟨h1, h2⟩ := IntOp.andi_eq_one.1 h0
  have t16 : Ideal.ofBits FTy.bf16 0x7F80#16 = (⊤ : EReal) := by simp [Ideal.ofBits, Ideal.ieee]
  have t32 : Ideal.ofBits FTy.f32 0x7F800000#32 = (⊤ : EReal) := by simp [Ideal.ofBits, Ideal.ieee]
  constructor
  · intro b t j hj
    have e := Host.reduce_andi_all _ _ _ _ _ h1 (ix3 b t ⟨(j : ℕ), hj⟩)
    apply real_of_abs
    rw [← t16, ← e]
    have hx : extractStridedSlice S16x2048x1024 ![0, 0, 0] X slices_S16x2048x1536_S16x2048x1024_0_0_0 (ix3 b t ⟨(j : ℕ), hj⟩) = X (ix3 b t j) := by
      pointwise
    rw [← hx]
    rfl
  · intro i
    have e := Host.reduce_andi_all _ _ _ _ _ h2 i
    apply real_of_abs
    rw [← t32, ← e]
    rfl
end Cert.Pre_finite_scores
end
-- ==== Proof.Norm.lean ====
/- The mathematics of one token's layer norm, its modulation, and its projection, over the extended reals. -/
module

public import Idealize.ShloMosaic.PureOps.Ideal
public import Idealize.ShloMosaic.PureOps.Ideal.Laws
public import proofs.«01_k».proof.Proof.Softmax

@[expose] public section

noncomputable section

namespace Cert.Norm

open Idealize.ShloMosaic

/-- The mean of a token's 1024 channels. -/
def mean (x : Fin 1024 → EReal) : EReal := Ideal.div (∑ k, x k) (Ideal.ofBits FTy.f32 0x44800000#32)

/-- A token's channel after the layer norm without gain. -/
def norm (x : Fin 1024 → EReal) (k : Fin 1024) : EReal :=
  (x k - mean x) * Ideal.rsqrt (mean (fun k => (x k - mean x) * (x k - mean x)) + Ideal.ofBits FTy.f32 0x3727C5AC#32)

/-- The normed channel, scaled and shifted by the conditioning. -/
def modulated (x shift scale : Fin 1024 → EReal) (k : Fin 1024) : EReal :=
  norm x k * (1 + scale k) + shift k

/-- One column of the projection of a modulated token. -/
def proj (x shift scale w : Fin 1024 → EReal) (b : EReal) : EReal :=
  ∑ k, modulated x shift scale k * w k + b

/-- The word of an eighth is a real number that is not negative. -/
theorem eighth_word : ∃ r : ℝ, 0 ≤ r ∧ Ideal.ofBits FTy.f32 0x3E000000#32 = (r : EReal) := by
  refine ⟨1 / 8, by norm_num, ?_⟩
  simp [Ideal.ofBits, Ideal.ieee]
  rw [← EReal.coe_mul]
  norm_num

/-- Scaling a column's weights and its bias scales the column, for a real factor that is not negative. -/
theorem proj_scale (x shift scale w : Fin 1024 → EReal) (b : EReal) {r : ℝ} (hr : 0 ≤ r) :
    proj x shift scale (fun k => w k * (r : EReal)) (b * (r : EReal)) = proj x shift scale w b * (r : EReal) := by
  unfold proj
  rw [EReal.right_distrib_of_nonneg_of_ne_top (EReal.coe_nonneg.mpr hr) (EReal.coe_ne_top r), Cert.Softmax.sum_mul_coe _ _ _ hr]
  simp only [mul_assoc]

end Cert.Norm

end
-- ==== Proof.InProjKernel.lean ====
/- The input projection's kernel: what a block computes, and what its two output arrays hold. -/
module

public import proofs.«01_k».proof.Proof.Gen.Kernel2Ideal.Frame
public import proofs.«01_k».proof.Proof.Gen.Kernel2Ideal.Value
public import proofs.«01_k».proof.Proof.Norm
public import Idealize.ShloMosaic.Lib.Pointwise
public import Idealize.ShloMosaic.Lib.Pipeline.ValueKit
public import Idealize.ShloMosaic.Lib.WholeRead
public import Idealize.ShloMosaic.Lib.StableHlo.ReadAt

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Norm

/-- The block's tokens, normed and modulated. -/
theorem pay2_apply (v0 v2 : Vec Ideal S1x1x1024 .f32) (v4 : Vec Ideal S512x1024 .f32) (n : Fin 512) (k : Fin 1024) :
    k0_pay2 (F := Ideal) v0 v2 v4 (ix2 n k)
      = modulated (fun k => v4 (ix2 n k)) (fun k => v0 (ix3 0 0 k)) (fun k => v2 (ix3 0 0 k)) k := by
  pointwise [k0_pay2]
  rfl

/-- The block's query, key and value columns. -/
theorem pay3_apply (v0 v2 : Vec Ideal S1x1x1024 .f32) (v4 : Vec Ideal S512x1024 .f32) (v28 : Vec Ideal S1024x1536 .bf16)
    (v31 : Vec Ideal S1x1536 .f32) (n : Fin 512) (j : Fin 1536) :
    k0_pay3 (F := Ideal) v0 v2 v4 v28 v31 (ix2 n j)
      = proj (fun k => v4 (ix2 n k)) (fun k => v0 (ix3 0 0 k)) (fun k => v2 (ix3 0 0 k)) (fun k => v28 (ix2 k j)) (v31 (ix2 0 j)) := by
  unfold k0_pay3
  have h := pay2_apply v0 v2 v4 n
  generalize k0_pay2 (F := Ideal) v0 v2 v4 = y at h ⊢
  pointwise []
  unfold proj
  simp only [h]

/-- The block's value and gate columns of the convolution. -/
theorem pay1_apply (y : FVec Ideal S512x1024 .bf16) (w : Vec Ideal S1024x1024 .bf16)
    (b : Vec Ideal S1x1024 .f32) (n : Fin 512) (j : Fin 1024) :
    k0_pay1 (F := Ideal) y w b (ix2 n j) = ∑ k, y (ix2 n k) * w (ix2 k j) + b (ix2 0 j) := by
  pointwise [k0_pay1]

variable (m : (ℓ : Loc nD τ sig) → Buf (Elt Ideal) ℓ)

/-- The windows' block indices: point `t` is block `t` of the tokens, in sequence `t / 4`. -/
theorem idx : ∀ t : Fin cfg0.N, win0_0.index t = ![(t : ℕ), 0] ∧ win0_1.index t = ![(t : ℕ) / 4, 0, 0]
    ∧ win0_2.index t = ![0, 0] ∧ win0_3.index t = ![0, 0]
    ∧ win0_4.index t = ![(t : ℕ), 0] ∧ win0_5.index t = ![(t : ℕ), 0] ∧ (t : ℕ) < 64 :=
  (by decide +kernel : ∀ t : Fin grid0.N, _)

/-- A column of the projection read off the whole arrays. -/
def projAt (X : S32768x1024.Idx → EReal) (M : S16x6x1024.Idx → EReal) (W : S1024x2560.Idx → EReal) (B : S1x2560.Idx → EReal)
    (t : Fin 32768) (j : Fin 2560) : EReal :=
  proj (fun k => X (ix2 t k)) (fun k => M (ix3 ⟨(t : ℕ) / 2048, by omega⟩ 0 k)) (fun k => M (ix3 ⟨(t : ℕ) / 2048, by omega⟩ 1 k))
    (fun k => W (ix2 k j)) (B (ix2 0 j))

/-- The query, key and value columns as an array. -/
def qkvArr (X : S32768x1024.Idx → EReal) (M : S16x6x1024.Idx → EReal) (W : S1024x2560.Idx → EReal) (B : S1x2560.Idx → EReal)
    (i : S32768x1536.Idx) : EReal :=
  projAt X M W B (i 0) ⟨(i 1 : ℕ), by have := (i 1).isLt; change (i 1 : ℕ) < 1536 at this; omega⟩

/-- The convolution's value and gate columns as an array. -/
def cagArr (X : S32768x1024.Idx → EReal) (M : S16x6x1024.Idx → EReal) (W : S1024x2560.Idx → EReal) (B : S1x2560.Idx → EReal)
    (i : S32768x1024.Idx) : EReal :=
  projAt X M W B (i 0) ⟨1536 + (i 1 : ℕ), by have := (i 1).isLt; change (i 1 : ℕ) < 1024 at this; omega⟩

/-- Window 0's block reads the block's tokens. -/
theorem iblk0 (c : Dev nD) (t : Fin cfg0.N) (n : Fin 512) (k : Fin 1024) : iblk m c 0 t (ix2 n k)
    = V m c main_arg0 (ix2 ⟨(t : ℕ) * 512 + n, by have := (idx t).2.2.2.2.2.2; omega⟩ k) := by
  blk_ext [iblk, V, idx t]

/-- Window 1's block reads the sequence's conditioning. -/
theorem iblk1 (c : Dev nD) (t : Fin cfg0.N) (i : Fin 6) (k : Fin 1024) : iblk m c 1 t (ix3 0 i k)
    = V m c main_arg1 (ix3 ⟨(t : ℕ) / 4, by have := (idx t).2.2.2.2.2.2; omega⟩ i k) := by
  blk_ext [iblk, V, idx t]

/-- Window 2 reads all weights. -/
theorem iblk2 (c : Dev nD) (t : Fin cfg0.N) (k : Fin 1024) (j : Fin 2560) : iblk m c 2 t (ix2 k j) = V m c main_v6 (ix2 k j) := by
  blk_ext [iblk, idx t]

/-- Window 3 reads all biases. -/
theorem iblk3 (c : Dev nD) (t : Fin cfg0.N) (j : Fin 2560) : iblk m c 3 t (ix2 0 j) = V m c main_v8 (ix2 0 j) := by
  blk_ext [iblk, idx t]

/-- The first output's block at point `t`. -/
theorem emb4 (t : Fin cfg0.N) (n : Fin 512) (j : Fin 1536) : (win0_4.blk t).view.emb (ix2 n j : S512x1536.Idx)
    = (ix2 ⟨(t : ℕ) * 512 + n, by have := (idx t).2.2.2.2.2.2; omega⟩ j : S32768x1536.Idx) := by
  blk_ext [idx t]

/-- The second output's block at point `t`. -/
theorem emb5 (t : Fin cfg0.N) (n : Fin 512) (j : Fin 1024) : (win0_5.blk t).view.emb (ix2 n j : S512x1024.Idx)
    = (ix2 ⟨(t : ℕ) * 512 + n, by have := (idx t).2.2.2.2.2.2; omega⟩ j : S32768x1024.Idx) := by
  blk_ext [idx t]

/-- A load of the weights from column `o` on. -/
theorem ld_w (x : Vec Ideal S1024x2560 .bf16) (o : ℕ) {w : ℕ} (h) (k : Fin 1024) (j : Fin w) (hj : o + j < 2560) :
    View.ld x (Rect.unit (s := S1024x2560) ![0, o] ![1024, w] h) (ix2 k j) = x (ix2 k ⟨o + j, hj⟩) := by
  refine congrArg x ?_
  ext a; fin_cases a
  · show 0 + 1 * (k : ℕ) = k; omega
  · show o + 1 * (j : ℕ) = o + j; omega

/-- A load of the biases from column `o` on. -/
theorem ld_b (x : Vec Ideal S1x2560 .f32) (o : ℕ) {w : ℕ} (h) (j : Fin w) (hj : o + j < 2560) :
    View.ld x (Rect.unit (s := S1x2560) ![0, o] ![1, w] h) (ix2 0 j) = x (ix2 0 ⟨o + j, hj⟩) := by
  refine congrArg x ?_
  ext a; fin_cases a
  · rfl
  · show o + 1 * (j : ℕ) = o + j; omega

/-- A load of one row of the conditioning. -/
theorem ld_mod (x : Vec Ideal S1x6x1024 .f32) (i : Fin 6) (h) (k : Fin 1024) :
    View.ld x (Rect.unit (s := S1x6x1024) ![0, (i : ℕ), 0] S1x1x1024.size h) (ix3 0 0 k) = x (ix3 0 i k) := by
  refine congrArg x ?_
  ext a; fin_cases a
  · rfl
  · rfl
  · show 0 + 1 * (k : ℕ) = k; omega

/-- A load of the whole block of tokens. -/
theorem ld_x (x : Vec Ideal S512x1024 .f32) (n : Fin 512) (k : Fin 1024) : View.ld x r0_2 (ix2 n k) = x (ix2 n k) := by
  refine congrArg x ?_
  ext a; fin_cases a
  · show 0 + 1 * (n : ℕ) = n; omega
  · show 0 + 1 * (k : ℕ) = k; omega

/-- What the body leaves in the first output's block. -/
theorem out4_apply (x0 : Vec Ideal S512x1024 .f32) (x1 : Vec Ideal S1x6x1024 .f32) (x2 : Vec Ideal S1024x2560 .bf16)
    (x3 : Vec Ideal S1x2560 .f32) (n : Fin 512) (j : Fin 1536) :
    out0_4 x0 x1 x2 x3 (ix2 n j) = proj (fun k => x0 (ix2 n k)) (fun k => x1 (ix3 0 0 k)) (fun k => x1 (ix3 0 1 k))
      (fun k => x2 (ix2 k ⟨j, by omega⟩)) (x3 (ix2 0 ⟨j, by omega⟩)) := by
  unfold out0_4
  rw [View.canon_unit_zero (by funext a; fin_cases a <;> rfl)]
  refine (pay3_apply _ _ _ _ _ n j).trans ?_
  refine congr (congr (congr (congr (congrArg proj (funext fun k => ?_)) (funext fun k => ?_)) (funext fun k => ?_)) (funext fun k => ?_)) ?_
  · exact ld_x x0 n k
  · exact ld_mod x1 0 _ k
  · exact ld_mod x1 1 _ k
  · exact (ld_w x2 0 _ k j (by omega)).trans (congrArg x2 (congrArg (ix2 k) (Fin.ext (by dsimp only; omega))))
  · exact (ld_b x3 0 _ j (by omega)).trans (congrArg x3 (congrArg (ix2 0) (Fin.ext (by dsimp only; omega))))

/-- What the body leaves in the second output's block. -/
theorem out5_apply (x0 : Vec Ideal S512x1024 .f32) (x1 : Vec Ideal S1x6x1024 .f32) (x2 : Vec Ideal S1024x2560 .bf16)
    (x3 : Vec Ideal S1x2560 .f32) (n : Fin 512) (j : Fin 1024) :
    out0_5 x0 x1 x2 x3 (ix2 n j) = proj (fun k => x0 (ix2 n k)) (fun k => x1 (ix3 0 0 k)) (fun k => x1 (ix3 0 1 k))
      (fun k => x2 (ix2 k ⟨1536 + j, by omega⟩)) (x3 (ix2 0 ⟨1536 + j, by omega⟩)) := by
  unfold out0_5
  rw [View.canon_unit_zero (by funext a; fin_cases a <;> rfl)]
  refine (pay1_apply _ _ _ n j).trans ?_
  unfold proj
  refine congrArg₂ (· + ·) (Finset.sum_congr rfl fun k _ => congrArg₂ (· * ·) ((pay2_apply _ _ _ n k).trans ?_) ?_) ?_
  · refine congrFun (congr (congr (congrArg modulated (funext fun k => ?_)) (funext fun k => ?_)) (funext fun k => ?_)) k
    · exact ld_x x0 n k
    · exact ld_mod x1 0 _ k
    · exact ld_mod x1 1 _ k
  · exact ld_w x2 1536 _ k j (by omega)
  · exact ld_b x3 1536 _ j (by omega)

/-- The first output's block is its part of the array. -/
theorem point4 (c : Dev nD) (t : Fin cfg0.N) (y : S512x1536.Idx) :
    out0_4 (iblk m c 0 t) (iblk m c 1 t) (iblk m c 2 t) (iblk m c 3 t) y
      = qkvArr (V m c main_arg0) (V m c main_arg1) (V m c main_v6) (V m c main_v8) ((win0_4.blk t).view.emb y) := by
  obtain ⟨n, j, rfl⟩ : ∃ (n : Fin 512) (j : Fin 1536), y = ix2 n j := ⟨y 0, y 1, by ext i; fin_cases i <;> rfl⟩
  rw [emb4]
  refine (out4_apply _ _ _ _ n j).trans ?_
  have h := (idx t).2.2.2.2.2.2
  have e : ((t : ℕ) * 512 + n) / 2048 = (t : ℕ) / 4 := by omega
  show _ = projAt _ _ _ _ ⟨(t : ℕ) * 512 + n, _⟩ ⟨(j : ℕ), _⟩
  unfold projAt
  simp only [iblk0, iblk1, iblk2, iblk3, e]

/-- The second output's block is its part of the array. -/
theorem point5 (c : Dev nD) (t : Fin cfg0.N) (y : S512x1024.Idx) :
    out0_5 (iblk m c 0 t) (iblk m c 1 t) (iblk m c 2 t) (iblk m c 3 t) y
      = cagArr (V m c main_arg0) (V m c main_arg1) (V m c main_v6) (V m c main_v8) ((win0_5.blk t).view.emb y) := by
  obtain ⟨n, j, rfl⟩ : ∃ (n : Fin 512) (j : Fin 1024), y = ix2 n j := ⟨y 0, y 1, by ext i; fin_cases i <;> rfl⟩
  rw [emb5]
  refine (out5_apply _ _ _ _ n j).trans ?_
  have h := (idx t).2.2.2.2.2.2
  have e : ((t : ℕ) * 512 + n) / 2048 = (t : ℕ) / 4 := by omega
  show _ = projAt _ _ _ _ ⟨(t : ℕ) * 512 + n, _⟩ ⟨1536 + (j : ℕ), _⟩
  unfold projAt
  simp only [iblk0, iblk1, iblk2, iblk3, e]

/-- The first output array: the query, key and value columns. -/
theorem array4_eq (c : Dev nD) : (dats m 0 c).arrAt 4 cfg0.N
    = qkvArr (V m c main_arg0) (V m c main_arg1) (V m c main_v6) (V m c main_v8) := by
  refine (dats m 0 c).arrAt_eq_of_covers 4 _ (by decide +kernel) fun t _ y => ?_
  blk_simp
  rw [after0_4]
  exact point4 m c t y

/-- The second output array: the value and gate columns of the convolution. -/
theorem array5_eq (c : Dev nD) : (dats m 0 c).arrAt 5 cfg0.N
    = cagArr (V m c main_arg0) (V m c main_arg1) (V m c main_v6) (V m c main_v8) := by
  refine (dats m 0 c).arrAt_eq_of_covers 5 _ (by decide +kernel) fun t _ y => ?_
  blk_simp
  rw [after0_5]
  exact point5 m c t y

end Cert.Kernel2Ideal.Value
end
-- ==== Proof.InProjHost.lean ====
/- The input projection's weights and biases as the kernel receives them: the queries' columns scaled by an eighth. -/
module

public import proofs.«01_k».proof.Proof.InProjKernel

@[expose] public section

set_option maxRecDepth 16384

noncomputable section

open Idealize.ShloMosaic Idealize.ShloMosaic.TcCoe Idealize.SL.Sem

namespace Cert.Kernel2Ideal.Value

open Cert.Kernel2Ideal Cert.Kernel2Ideal.Gen Cert.Norm

/-- The factor of a projection column. -/
def colScale (j : Fin 2560) : EReal := if (j : ℕ) < 512 then Ideal.ofBits FTy.f32 0x3E000000#32 else 1

variable (m : (ℓ : Loc nD τ sig) → Buf (Elt Ideal) ℓ)

/-- The weights as the region receives them. -/
theorem weights_eq (c : Dev nD) (k : Fin 1024) (j : Fin 2560) :
    V m c main_v6 (ix2 k j) = (show S1024x2560.Idx → EReal from m (c, Proc.devRef .tc main_arg2)) (ix2 k j) * colScale j := by
  unfold V
  have key : ∀ C : EReal, C = (show S1024x2560.Idx → EReal from m (c, Proc.devRef .tc main_arg2)) (ix2 k j) * colScale j →
      StableHlo.after hostOps0 (fun b => m (c, b)) (Proc.devRef .tc main_v6) (ix2 k j) = C := by
    intro C hC
    after_reads_at
    rw [hC]
    refine congrArg₂ (· * ·) rfl ?_
    unfold colScale
    split
    · after_reads_at
    · after_reads_at
  exact key _ rfl

/-- The biases as the region receives them. -/
theorem biases_eq (c : Dev nD) (j : Fin 2560) :
    V m c main_v8 (ix2 0 j) = (show S2560.Idx → EReal from m (c, Proc.devRef .tc main_arg3)) (ix1 j) * colScale j := by
  unfold V
  have key : ∀ C : EReal, C = (show S2560.Idx → EReal from m (c, Proc.devRef .tc main_arg3)) (ix1 j) * colScale j →
      StableHlo.after hostOps0 (fun b => m (c, b)) (Proc.devRef .tc main_v8) (ix2 0 j) = C := by
    intro C hC
    after_reads_at
    rw [hC]
    refine congrArg₂ (· * ·) rfl ?_
    unfold colScale
    split
    · after_reads_at
    · after_reads_at
  exact key _ rfl

end Cert.Kernel2Ideal.Value
end
-- ==== Proof.InProjRef.lean ====
/- The reference's input projection, read column by column. -/
module

public import proofs.«01_k».proof.Proof.Gen.Reference2Ideal.Run
public import proofs.«01_k».proof.Proof.Norm
public import Idealize.ShloMosaic.Lib.Pointwise

@[expose] public section

set_option maxRecDepth 16384

noncomputable section

open Idealize.ShloMosaic Idealize.ShloMosaic.TcCoe Idealize.SL.Sem

namespace Cert.Reference2Ideal.Value

open Cert.Reference2Ideal Cert.Reference2Ideal.Gen Cert.Norm

/-- The tokens' means, laid out as one column. -/
def meanArr (x : FVec Ideal S16x2048x1024 .f32) : FVec Ideal S16x2048x1 .f32 :=
  Host.divf (broadcastInDim S16x2048x1 ![0, 1] bcast_S16x2048_S16x2048x1_0_1 (Host.reduceAdd x (constant S_ .f32 0x00000000#32) reducesTo_S16x2048x1024_S16x2048_d2 h_S_)) (broadcastInDim S16x2048x1 ![] bcast_S_S16x2048x1 (constant S_ .f32 0x44800000#32))

/-- The tokens less their means. -/
def centredArr (x : FVec Ideal S16x2048x1024 .f32) : FVec Ideal S16x2048x1024 .f32 :=
  subf x (broadcastInDim S16x2048x1024 ![0, 1, 2] bcast_S16x2048x1_S16x2048x1024_0_1_2 (meanArr x))

/-- The tokens, normed. -/
def normArr (x : FVec Ideal S16x2048x1024 .f32) : FVec Ideal S16x2048x1024 .f32 :=
  mulf (centredArr x) (broadcastInDim S16x2048x1024 ![0, 1, 2] bcast_S16x2048x1_S16x2048x1024_0_1_2 (Host.rsqrt (addf (meanArr (mulf (centredArr x) (centredArr x))) (broadcastInDim S16x2048x1 ![] bcast_S_S16x2048x1 (constant S_ .f32 0x3727C5AC#32)))))

/-- The tokens, normed and modulated by two rows of the conditioning. -/
def modArr (x : FVec Ideal S16x2048x1024 .f32) (shift scale : FVec Ideal S16x1x1024 .f32) : FVec Ideal S16x2048x1024 .f32 :=
  addf (mulf (normArr x) (broadcastInDim S16x2048x1024 ![0, 1, 2] bcast_S16x1x1024_S16x2048x1024_0_1_2 (addf (broadcastInDim S16x1x1024 ![] bcast_S_S16x1x1024 (constant S_ .f32 0x3F800000#32)) scale))) (broadcastInDim S16x2048x1024 ![0, 1, 2] bcast_S16x1x1024_S16x2048x1024_0_1_2 shift)

/-- One row of the conditioning of every sequence. -/
def row0 (M : FVec Ideal S16x6x1024 .f32) : FVec Ideal S16x1x1024 .f32 :=
  broadcastInDim S16x1x1024 ![0, 2] bcast_S16x1024_S16x1x1024_0_2 (shapeCast _ (extractStridedSlice S16x1x1024 ![0, 0, 0] M slices_S16x6x1024_S16x1x1024_0_0_0) shapeCasts_S16x1x1024_S16x1024)

/-- The second row of the conditioning of every sequence. -/
def row1 (M : FVec Ideal S16x6x1024 .f32) : FVec Ideal S16x1x1024 .f32 :=
  broadcastInDim S16x1x1024 ![0, 2] bcast_S16x1024_S16x1x1024_0_2 (shapeCast _ (extractStridedSlice S16x1x1024 ![0, 1, 0] M slices_S16x6x1024_S16x1x1024_0_1_0) shapeCasts_S16x1x1024_S16x1024)

/-- The projection of the modulated tokens. -/
def projArr (X : FVec Ideal S32768x1024 .f32) (M : FVec Ideal S16x6x1024 .f32) (W : FVec Ideal S1024x2560 .f32) (B : FVec Ideal S2560 .f32) :
    FVec Ideal S16x2048x2560 .f32 :=
  addf (Host.dotGeneral dot_S16x2048x1024_S1024x2560_S16x2048x2560_2_0_01_1_n_n none (modArr (shapeCast _ X shapeCasts_S32768x1024_S16x2048x1024) (row0 M) (row1 M)) W)
    (broadcastInDim S16x2048x2560 ![0, 1, 2] bcast_S1x1x2560_S16x2048x2560_0_1_2 (broadcastInDim S1x1x2560 ![2] bcast_S2560_S1x1x2560_2 B))

/-- The first result of a projection array. -/
def qkvOf (z : FVec Ideal S16x2048x2560 .f32) : FVec Ideal S32768x1536 .bf16 :=
  shapeCast _ (truncf .bf16 (concatenate S16x2048x1536 2 [⟨S16x2048x512, (mulf (extractStridedSlice S16x2048x512 ![0, 0, 0] z slices_S16x2048x2560_S16x2048x512_0_0_0) (broadcastInDim S16x2048x512 ![] bcast_S_S16x2048x512 (constant S_ .f32 0x3E000000#32)))⟩, ⟨S16x2048x1024, (extractStridedSlice S16x2048x1024 ![0, 0, 512] z slices_S16x2048x2560_S16x2048x1024_0_0_512)⟩] concatenates_S16x2048x512_S16x2048x1024_S16x2048x1536_d2) bitsLt_bf16_f32) shapeCasts_S16x2048x1536_S32768x1536

/-- The second result of a projection array. -/
def cagOf (z : FVec Ideal S16x2048x2560 .f32) : FVec Ideal S32768x1024 .f32 :=
  shapeCast _ (extractStridedSlice S16x2048x1024 ![0, 0, 1536] z slices_S16x2048x2560_S16x2048x1024_0_0_1536) shapeCasts_S16x2048x1024_S32768x1024

/-- The means, read. -/
theorem meanArr_apply (x : FVec Ideal S16x2048x1024 .f32) (b : Fin 16) (s : Fin 2048) :
    meanArr x (ix3 b s 0) = mean fun k => x (ix3 b s k) := by
  have key : ∀ C, C = (mean fun k => x (ix3 b s k)) → meanArr x (ix3 b s 0) = C := by
    intro C hC
    pointwise [meanArr]
    rw [hC]; unfold mean
    rfl
  exact key _ rfl

/-- The centred tokens, read. -/
theorem centredArr_apply (x : FVec Ideal S16x2048x1024 .f32) (b : Fin 16) (s : Fin 2048) (k : Fin 1024) :
    centredArr x (ix3 b s k) = x (ix3 b s k) - mean fun k => x (ix3 b s k) := by
  have h := meanArr_apply x b s
  unfold centredArr
  generalize meanArr x = y at h ⊢
  rw [← h]
  pointwise

/-- The normed tokens, read. -/
theorem normArr_apply (x : FVec Ideal S16x2048x1024 .f32) (b : Fin 16) (s : Fin 2048) (k : Fin 1024) :
    normArr x (ix3 b s k) = Cert.Norm.norm (fun k => x (ix3 b s k)) k := by
  have h := centredArr_apply x b s
  unfold normArr Cert.Norm.norm
  generalize centredArr x = y at h ⊢
  have h2 := meanArr_apply (mulf y y) b s
  simp only [← h]
  have h3 : (mean fun k => y (ix3 b s k) * y (ix3 b s k)) = meanArr (mulf y y) (ix3 b s 0) := h2.symm
  rw [h3]
  generalize meanArr (mulf y y) = v
  pointwise

/-- The modulated tokens, read. -/
theorem modArr_apply (x : FVec Ideal S16x2048x1024 .f32) (shift scale : FVec Ideal S16x1x1024 .f32) (b : Fin 16) (s : Fin 2048) (k : Fin 1024) :
    modArr x shift scale (ix3 b s k) = modulated (fun k => x (ix3 b s k)) (fun k => shift (ix3 b 0 k)) (fun k => scale (ix3 b 0 k)) k := by
  have h := normArr_apply x b s
  unfold modArr modulated
  rw [← h]
  generalize normArr x = y
  pointwise

/-- The first row, read. -/
theorem row0_apply (M : FVec Ideal S16x6x1024 .f32) (b : Fin 16) (k : Fin 1024) : row0 M (ix3 b 0 k) = M (ix3 b 0 k) := by
  pointwise [row0]

/-- The second row, read. -/
theorem row1_apply (M : FVec Ideal S16x6x1024 .f32) (b : Fin 16) (k : Fin 1024) : row1 M (ix3 b 0 k) = M (ix3 b 1 k) := by
  pointwise [row1]

/-- The tokens by sequence, read. -/
theorem tokens_apply (X : FVec Ideal S32768x1024 .f32) (b : Fin 16) (s : Fin 2048) (k : Fin 1024) :
    shapeCast S16x2048x1024 X shapeCasts_S32768x1024_S16x2048x1024 (ix3 b s k) = X (ix2 ⟨(b : ℕ) * 2048 + s, by omega⟩ k) := by
  pointwise

/-- The projection, read. -/
theorem projArr_apply (X : FVec Ideal S32768x1024 .f32) (M : FVec Ideal S16x6x1024 .f32) (W : FVec Ideal S1024x2560 .f32) (B : FVec Ideal S2560 .f32)
    (b : Fin 16) (s : Fin 2048) (j : Fin 2560) :
    projArr X M W B (ix3 b s j) = proj (fun k => X (ix2 ⟨(b : ℕ) * 2048 + s, by omega⟩ k)) (fun k => M (ix3 b 0 k)) (fun k => M (ix3 b 1 k))
      (fun k => W (ix2 k j)) (B (ix1 j)) := by
  have h : ∀ k, modArr (shapeCast _ X shapeCasts_S32768x1024_S16x2048x1024) (row0 M) (row1 M) (ix3 b s k)
      = modulated (fun k => X (ix2 ⟨(b : ℕ) * 2048 + s, by omega⟩ k)) (fun k => M (ix3 b 0 k)) (fun k => M (ix3 b 1 k)) k := by
    intro k
    rw [modArr_apply]
    simp only [tokens_apply, row0_apply, row1_apply]
  unfold projArr proj
  simp only [← h]
  generalize modArr (shapeCast _ X shapeCasts_S32768x1024_S16x2048x1024) (row0 M) (row1 M) = y
  pointwise

/-- The first result, read: the queries' columns are scaled by an eighth. -/
theorem qkvOf_apply (z : FVec Ideal S16x2048x2560 .f32) (t : Fin 32768) (j : Fin 1536) :
    qkvOf z (ix2 t j) = if (j : ℕ) < 512
      then z (ix3 ⟨(t : ℕ) / 2048, by omega⟩ ⟨(t : ℕ) % 2048, by omega⟩ ⟨j, by omega⟩) * Ideal.ofBits FTy.f32 0x3E000000#32
      else z (ix3 ⟨(t : ℕ) / 2048, by omega⟩ ⟨(t : ℕ) % 2048, by omega⟩ ⟨j, by omega⟩) := by
  have key : ∀ C : EReal, C = (if (j : ℕ) < 512
      then z (ix3 ⟨(t : ℕ) / 2048, by omega⟩ ⟨(t : ℕ) % 2048, by omega⟩ ⟨j, by omega⟩) * Ideal.ofBits FTy.f32 0x3E000000#32
      else z (ix3 ⟨(t : ℕ) / 2048, by omega⟩ ⟨(t : ℕ) % 2048, by omega⟩ ⟨j, by omega⟩) : EReal) → qkvOf z (ix2 t j) = C := by
    intro C hC
    pointwise [qkvOf]
    by_cases hj : (j : ℕ) < 512
    · rw [dif_pos hj, hC, if_pos hj]
    · rw [dif_neg hj, hC, if_neg hj]
      exact congrArg z (congrArg (ix3 _ _) (Fin.ext (by dsimp only; omega)))
  exact key _ rfl

/-- The second result, read. -/
theorem cagOf_apply (z : FVec Ideal S16x2048x2560 .f32) (t : Fin 32768) (j : Fin 1024) :
    cagOf z (ix2 t j) = z (ix3 ⟨(t : ℕ) / 2048, by omega⟩ ⟨(t : ℕ) % 2048, by omega⟩ ⟨1536 + j, by omega⟩) := by
  pointwise [cagOf]

variable (m : (ℓ : Loc nD τ sig) → Buf (Elt Ideal) ℓ)

/-- What the reference's run leaves: the two results of the projection, and its arguments. -/
theorem run_results (ρ : Dev nD → PrngReg) : θ_run defs (onTc (τ := τ) (main (F := Ideal))) ⟨m, fun _ => 0, ρ⟩ fun r => ∀ c : Dev nD,
      (r.2.mem ((c.tc : Thread nD τ).loc main_v42) = qkvOf (projArr (m ((c.tc : Thread nD τ).loc main_arg0)) (m ((c.tc : Thread nD τ).loc main_arg1))
        (m ((c.tc : Thread nD τ).loc main_arg2)) (m ((c.tc : Thread nD τ).loc main_arg3)))
      ∧ r.2.mem ((c.tc : Thread nD τ).loc main_v43) = cagOf (projArr (m ((c.tc : Thread nD τ).loc main_arg0)) (m ((c.tc : Thread nD τ).loc main_arg1))
        (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c).1, (h c).2.1⟩, (h c).2.2⟩) (run m ρ)

end Cert.Reference2Ideal.Value
end
-- ==== Proof.InProjEquation.lean ====
/- The input projection: the kernel's two arrays are the reference's two results. -/
module

public import proofs.«01_k».proof.Proof.InProjHost
public import proofs.«01_k».proof.Proof.InProjRef

@[expose] public section

set_option maxRecDepth 16384

noncomputable section

open Idealize.ShloMosaic Idealize.ShloMosaic.TcCoe Idealize.SL.Sem

namespace Cert.InProj

open Cert.Norm Cert.Kernel2Ideal Cert.Kernel2Ideal.Value

/-- A kernel column over the scaled weights, against the reference's column over the plain weights, scaled after. -/
theorem column_eq (X : S32768x1024.Idx → EReal) (M : S16x6x1024.Idx → EReal) (W W' : S1024x2560.Idx → EReal)
    (B : S2560.Idx → EReal) (B' : S1x2560.Idx → EReal)
    (hW : ∀ k j, W' (ix2 k j) = W (ix2 k j) * colScale j) (hB : ∀ j, B' (ix2 0 j) = B (ix1 j) * colScale j)
    (t : Fin 32768) (j : Fin 2560) :
    projAt X M W' B' t j
      = proj (fun k => X (ix2 t k)) (fun k => M (ix3 ⟨(t : ℕ) / 2048, by omega⟩ 0 k)) (fun k => M (ix3 ⟨(t : ℕ) / 2048, by omega⟩ 1 k))
        (fun k => W (ix2 k j)) (B (ix1 j)) * colScale j := by
  have hr : ∃ r : ℝ, 0 ≤ r ∧ colScale j = (r : EReal) := by
    unfold colScale
    split
    · exact eighth_word
    · exact ⟨1, zero_le_one, rfl⟩
  obtain ⟨r, h0, e⟩ := hr
  unfold projAt
  simp only [hW, hB]
  rw [e]
  exact proj_scale _ _ _ _ _ h0

/-- The reference's projection at a token of the whole array. -/
theorem projArr_token (X : FVec Ideal S32768x1024 .f32) (M : FVec Ideal S16x6x1024 .f32) (W : FVec Ideal S1024x2560 .f32)
    (B : FVec Ideal S2560 .f32) (t : Fin 32768) (j : Fin 2560) :
    Cert.Reference2Ideal.Value.projArr X M W B (ix3 ⟨(t : ℕ) / 2048, by omega⟩ ⟨(t : ℕ) % 2048, by omega⟩ j)
      = proj (fun k => X (ix2 t k)) (fun k => M (ix3 ⟨(t : ℕ) / 2048, by omega⟩ 0 k)) (fun k => M (ix3 ⟨(t : ℕ) / 2048, by omega⟩ 1 k))
        (fun k => W (ix2 k j)) (B (ix1 j)) := by
  rw [Cert.Reference2Ideal.Value.projArr_apply]
  have e : (⟨(t : ℕ) / 2048 * 2048 + (t : ℕ) % 2048, by omega⟩ : Fin 32768) = t := Fin.ext (by dsimp only; omega)
  simp only [e]

variable (m : (ℓ : Loc nD τ sig) → Buf (Elt Ideal) ℓ)
  (m' : (ℓ : Loc Cert.Reference2Ideal.nD Cert.Reference2Ideal.τ Cert.Reference2Ideal.sig) → Buf (Elt Ideal) ℓ)

/-- The reference's projection of the kernel's launch contents. -/
def refProj (c : Dev nD) : FVec Ideal Cert.Reference2Ideal.S16x2048x2560 .f32 :=
  Cert.Reference2Ideal.Value.projArr (m ((c.tc : Thread nD τ).loc main_arg0)) (m ((c.tc : Thread nD τ).loc main_arg1))
    (m ((c.tc : Thread nD τ).loc main_arg2)) (m ((c.tc : Thread nD τ).loc main_arg3))

/-- A column of the kernel's arrays is the reference's column, scaled. -/
theorem kernel_column (c : Dev nD) (t : Fin 32768) (j : Fin 2560) :
    projAt (Cert.Kernel2Ideal.Gen.V m c main_arg0) (Cert.Kernel2Ideal.Gen.V m c main_arg1) (Cert.Kernel2Ideal.Gen.V m c main_v6) (Cert.Kernel2Ideal.Gen.V m c main_v8) t j
      = refProj m c (ix3 ⟨(t : ℕ) / 2048, by omega⟩ ⟨(t : ℕ) % 2048, by omega⟩ j) * colScale j := by
  rw [column_eq _ _ _ _ _ _ (weights_eq m c) (biases_eq m c) t j]
  unfold refProj
  rw [projArr_token, Cert.Kernel2Ideal.Gen.V_main_arg0 m c, Cert.Kernel2Ideal.Gen.V_main_arg1 m c]

/-- The first output. -/
theorem first_eq (c : Dev nD) : Cert.Reference2Ideal.Value.qkvOf (refProj m c) = (Cert.Kernel2Ideal.Gen.dats (F := Ideal) m 0 c).arrAt 4 cfg0.N := by
  rw [array4_eq]
  funext i
  obtain ⟨t, j, rfl⟩ : ∃ (t : Fin 32768) (j : Fin 1536), i = ix2 t j := ⟨i 0, i 1, by ext a; fin_cases a <;> rfl⟩
  refine (Cert.Reference2Ideal.Value.qkvOf_apply _ t j).trans ?_
  refine Eq.trans ?_ (kernel_column m c t ⟨j, by omega⟩).symm
  unfold colScale
  by_cases hj : (j : ℕ) < 512
  · rw [if_pos hj, if_pos hj]
  · rw [if_neg hj, if_neg hj, mul_one]

/-- The second output. -/
theorem second_eq (c : Dev nD) : Cert.Reference2Ideal.Value.cagOf (refProj m c) = (Cert.Kernel2Ideal.Gen.dats (F := Ideal) m 0 c).arrAt 5 cfg0.N := by
  rw [array5_eq]
  funext i
  obtain ⟨t, j, rfl⟩ : ∃ (t : Fin 32768) (j : Fin 1024), i = ix2 t j := ⟨i 0, i 1, by ext a; fin_cases a <;> rfl⟩
  refine (Cert.Reference2Ideal.Value.cagOf_apply _ t j).trans ?_
  refine Eq.trans ?_ (kernel_column m c t ⟨1536 + j, by omega⟩).symm
  unfold colScale
  rw [if_neg (by dsimp only; omega), mul_one]

/-- The reference's projection, from memory that agrees with the kernel's on the arguments. -/
theorem refProj_eq (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3)) :
    Cert.Reference2Ideal.Value.projArr (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3)) = refProj m c := by
  unfold refProj
  rw [h0, h1, h2, h3]

end Cert.InProj
end
-- ==== Proof.OutProjKernel.lean ====
/- The output projection's kernel: what a block computes, and what its two output arrays hold. -/
module

public import proofs.«01_k».proof.Proof.Gen.Kernel3Ideal.Frame
public import proofs.«01_k».proof.Proof.Gen.Kernel3Ideal.Value
public import proofs.«01_k».proof.Proof.Norm
public import Idealize.ShloMosaic.Lib.Pointwise
public import Idealize.ShloMosaic.Lib.Pipeline.ValueKit
public import Idealize.ShloMosaic.Lib.WholeRead
public import Idealize.ShloMosaic.Lib.StableHlo.ReadAt

@[expose] public section

set_option maxRecDepth 16384

noncomputable section

open Idealize.ShloMosaic Idealize.ShloMosaic.TcCoe Idealize.SL.Sem

namespace Cert.OutProj

open Cert.Norm

/-- A token's residual sum: the token scaled, plus the gated projection of its two halves. -/
def resid (a b : Fin 512 → EReal) (w : Fin 1024 → Fin 1024 → EReal) (bias x gate : Fin 1024 → EReal) (k : Fin 1024) : EReal :=
  Ideal.ofBits FTy.f32 0x3F9837F0#32 * x k
    + gate k * (∑ i : Fin 512, a i * w ⟨i, by omega⟩ k + ∑ i : Fin 512, b i * w ⟨512 + i, by omega⟩ k + bias k)

/-- The layer norm with gain and bias. -/
def gained (x g b : Fin 1024 → EReal) (k : Fin 1024) : EReal := Cert.Norm.norm x k * g k + b k

end Cert.OutProj

namespace Cert.Kernel3Ideal.Value

open Cert.Kernel3Ideal Cert.Kernel3Ideal.Gen Cert.Norm Cert.OutProj

/-- The block's residual sums, centred. -/
theorem pay3_apply (v0 : Vec Ideal S512x512 .bf16) (v1 : Vec Ideal S512x1024 .bf16) (v4 : Vec Ideal S512x512 .bf16) (v5 : Vec Ideal S512x1024 .bf16)
    (v9 : Vec Ideal S1x1024 .f32) (v13 : Vec Ideal S1x1x1024 .f32) (v19 : Vec Ideal S512x1024 .f32) (n : Fin 512) (k : Fin 1024)
    (r : Fin 1024 → EReal) (hr : ∀ k, r k = Ideal.ofBits FTy.f32 0x3F9837F0#32 * v19 (ix2 n k)
      + v13 (ix3 0 0 k) * (∑ i, v0 (ix2 n i) * v1 (ix2 i k) + ∑ i, v4 (ix2 n i) * v5 (ix2 i k) + v9 (ix2 0 k))) :
    k0_pay3 (F := Ideal) v0 v1 v4 v5 v9 v13 v19 (ix2 n k) = r k - mean r := by
  have key : ∀ C, C = r k - mean r → k0_pay3 (F := Ideal) v0 v1 v4 v5 v9 v13 v19 (ix2 n k) = C := by
    intro C hC
    pointwise [k0_pay3]
    rw [hC]; unfold mean
    simp only [hr]
  exact key _ rfl

/-- The squares of the centred sums. -/
theorem pay4_apply (v0 : Vec Ideal S512x512 .bf16) (v1 : Vec Ideal S512x1024 .bf16) (v4 : Vec Ideal S512x512 .bf16) (v5 : Vec Ideal S512x1024 .bf16)
    (v9 : Vec Ideal S1x1024 .f32) (v13 : Vec Ideal S1x1x1024 .f32) (v19 : Vec Ideal S512x1024 .f32) (n : Fin 512) (k : Fin 1024) :
    k0_pay4 (F := Ideal) v0 v1 v4 v5 v9 v13 v19 (ix2 n k)
      = k0_pay3 (F := Ideal) v0 v1 v4 v5 v9 v13 v19 (ix2 n k) * k0_pay3 (F := Ideal) v0 v1 v4 v5 v9 v13 v19 (ix2 n k) := rfl

/-- The first output's payload over centred sums and their squares. -/
theorem pay5_apply (v30 v31 : FVec Ideal S512x1024 .f32) (v41 v45 : Vec Ideal S1x1024 .f32) (n : Fin 512) (k : Fin 1024)
    (r : Fin 1024 → EReal) (h30 : ∀ k, v30 (ix2 n k) = r k - mean r) (h31 : ∀ k, v31 (ix2 n k) = (r k - mean r) * (r k - mean r)) :
    k0_pay5 (F := Ideal) v30 v31 v41 v45 (ix2 n k) = gained r (fun k => v41 (ix2 0 k)) (fun k => v45 (ix2 0 k)) k := by
  unfold gained Cert.Norm.norm
  simp only [← h31]
  simp only [← h30]
  have key : ∀ C, C = v30 (ix2 n k) * Ideal.rsqrt (mean (fun k => v31 (ix2 n k)) + Ideal.ofBits FTy.f32 0x3727C5AC#32) * v41 (ix2 0 k) + v45 (ix2 0 k)
      → k0_pay5 (F := Ideal) v30 v31 v41 v45 (ix2 n k) = C := by
    intro C hC
    pointwise [k0_pay5]
    rw [hC]; unfold mean
    rfl
  exact key _ rfl

/-- The second output's payload: the first output, normed and modulated. -/
theorem pay6_apply (v16 v18 : FVec Ideal S1x1024 .f32) (v30 v31 : FVec Ideal S512x1024 .f32) (v41 v45 : Vec Ideal S1x1024 .f32)
    (n : Fin 512) (k : Fin 1024) :
    k0_pay6 (F := Ideal) v16 v18 v30 v31 v41 v45 (ix2 n k)
      = modulated (fun k => k0_pay5 (F := Ideal) v30 v31 v41 v45 (ix2 n k)) (fun k => v16 (ix2 0 k)) (fun k => v18 (ix2 0 k)) k := by
  unfold k0_pay6
  generalize k0_pay5 (F := Ideal) v30 v31 v41 v45 = y
  pointwise
  rfl

/-- A row of the conditioning, without its unit axis. -/
theorem pay1_apply (v : Vec Ideal S1x1x1024 .f32) (k : Fin 1024) : k0_pay1 (F := Ideal) v (ix2 0 k) = v (ix3 0 0 k) := by
  pointwise [k0_pay1]

/-- A row of the conditioning, without its unit axis. -/
theorem pay2_apply (v : Vec Ideal S1x1x1024 .f32) (k : Fin 1024) : k0_pay2 (F := Ideal) v (ix2 0 k) = v (ix3 0 0 k) := by
  pointwise [k0_pay2]

variable (m : (ℓ : Loc nD τ sig) → Buf (Elt Ideal) ℓ)

/-- The windows' block indices: point `t` is block `t` of the tokens, in sequence `t / 4`. -/
theorem idx : ∀ t : Fin cfg0.N, win0_0.index t = ![(t : ℕ), 0] ∧ win0_1.index t = ![(t : ℕ), 0] ∧ win0_2.index t = ![(t : ℕ), 0]
    ∧ win0_3.index t = ![(t : ℕ) / 4, 0, 0]
    ∧ win0_4.index t = ![0, 0] ∧ win0_5.index t = ![0, 0] ∧ win0_6.index t = ![0, 0] ∧ win0_7.index t = ![0, 0]
    ∧ win0_8.index t = ![(t : ℕ), 0] ∧ win0_9.index t = ![(t : ℕ), 0] ∧ (t : ℕ) < 64 :=
  (by decide +kernel : ∀ t : Fin grid0.N, _)

/-- There are 64 blocks of tokens. -/
theorem lt64 (t : Fin cfg0.N) : (t : ℕ) < 64 := (idx t).2.2.2.2.2.2.2.2.2.2

/-- The residual sum of a token, read off the whole arrays. -/
def residAt (A C : S32768x512.Idx → EReal) (X : S32768x1024.Idx → EReal) (M : S16x6x1024.Idx → EReal) (W : S1024x1024.Idx → EReal)
    (B : S1x1024.Idx → EReal) (t : Fin 32768) : Fin 1024 → EReal :=
  resid (fun i => A (ix2 t i)) (fun i => C (ix2 t i)) (fun i k => W (ix2 i k)) (fun k => B (ix2 0 k)) (fun k => X (ix2 t k))
    (fun k => M (ix3 ⟨(t : ℕ) / 2048, by omega⟩ 2 k))

/-- The first output, read off the whole arrays. -/
def firstAt (A C : S32768x512.Idx → EReal) (X : S32768x1024.Idx → EReal) (M : S16x6x1024.Idx → EReal) (W : S1024x1024.Idx → EReal)
    (B G L : S1x1024.Idx → EReal) (t : Fin 32768) : Fin 1024 → EReal :=
  gained (residAt A C X M W B t) (fun k => G (ix2 0 k)) (fun k => L (ix2 0 k))

/-- The second output, read off the whole arrays. -/
def secondAt (A C : S32768x512.Idx → EReal) (X : S32768x1024.Idx → EReal) (M : S16x6x1024.Idx → EReal) (W : S1024x1024.Idx → EReal)
    (B G L : S1x1024.Idx → EReal) (t : Fin 32768) : Fin 1024 → EReal :=
  modulated (firstAt A C X M W B G L t) (fun k => M (ix3 ⟨(t : ℕ) / 2048, by omega⟩ 3 k)) (fun k => M (ix3 ⟨(t : ℕ) / 2048, by omega⟩ 4 k))

/-- The first output as an array. -/
def firstArr (A C : S32768x512.Idx → EReal) (X : S32768x1024.Idx → EReal) (M : S16x6x1024.Idx → EReal) (W : S1024x1024.Idx → EReal)
    (B G L : S1x1024.Idx → EReal) (i : S32768x1024.Idx) : EReal := firstAt A C X M W B G L (i 0) (i 1)

/-- The second output as an array. -/
def secondArr (A C : S32768x512.Idx → EReal) (X : S32768x1024.Idx → EReal) (M : S16x6x1024.Idx → EReal) (W : S1024x1024.Idx → EReal)
    (B G L : S1x1024.Idx → EReal) (i : S32768x1024.Idx) : EReal := secondAt A C X M W B G L (i 0) (i 1)

/-- Window 0's block reads the block's attention outputs. -/
theorem iblk0 (c : Dev nD) (t : Fin cfg0.N) (n : Fin 512) (k : Fin 512) : iblk m c 0 t (ix2 n k)
    = V m c main_arg0 (ix2 ⟨(t : ℕ) * 512 + n, by have := lt64 t; omega⟩ k) := by
  blk_ext [iblk, V, idx t]

/-- Window 1's block reads the block's convolution outputs. -/
theorem iblk1 (c : Dev nD) (t : Fin cfg0.N) (n : Fin 512) (k : Fin 512) : iblk m c 1 t (ix2 n k)
    = V m c main_arg1 (ix2 ⟨(t : ℕ) * 512 + n, by have := lt64 t; omega⟩ k) := by
  blk_ext [iblk, V, idx t]

/-- Window 2's block reads the block's tokens. -/
theorem iblk2 (c : Dev nD) (t : Fin cfg0.N) (n : Fin 512) (k : Fin 1024) : iblk m c 2 t (ix2 n k)
    = V m c main_arg2 (ix2 ⟨(t : ℕ) * 512 + n, by have := lt64 t; omega⟩ k) := by
  blk_ext [iblk, V, idx t]

/-- Window 3's block reads the sequence's conditioning. -/
theorem iblk3 (c : Dev nD) (t : Fin cfg0.N) (i : Fin 6) (k : Fin 1024) : iblk m c 3 t (ix3 0 i k)
    = V m c main_arg3 (ix3 ⟨(t : ℕ) / 4, by have := lt64 t; omega⟩ i k) := by
  blk_ext [iblk, V, idx t]

/-- Window 4 reads all weights. -/
theorem iblk4 (c : Dev nD) (t : Fin cfg0.N) (k : Fin 1024) (j : Fin 1024) : iblk m c 4 t (ix2 k j) = V m c main_v0 (ix2 k j) := by
  blk_ext [iblk, idx t]

/-- Window 5 reads all biases. -/
theorem iblk5 (c : Dev nD) (t : Fin cfg0.N) (j : Fin 1024) : iblk m c 5 t (ix2 0 j) = V m c main_v1 (ix2 0 j) := by
  blk_ext [iblk, idx t]

/-- Window 6 reads all gains. -/
theorem iblk6 (c : Dev nD) (t : Fin cfg0.N) (j : Fin 1024) : iblk m c 6 t (ix2 0 j) = V m c main_v2 (ix2 0 j) := by
  blk_ext [iblk, idx t]

/-- Window 7 reads all biases of the norm. -/
theorem iblk7 (c : Dev nD) (t : Fin cfg0.N) (j : Fin 1024) : iblk m c 7 t (ix2 0 j) = V m c main_v3 (ix2 0 j) := by
  blk_ext [iblk, idx t]

/-- The first output's block at point `t`. -/
theorem emb8 (t : Fin cfg0.N) (n : Fin 512) (j : Fin 1024) : (win0_8.blk t).view.emb (ix2 n j : S512x1024.Idx)
    = (ix2 ⟨(t : ℕ) * 512 + n, by have := lt64 t; omega⟩ j : S32768x1024.Idx) := by
  blk_ext [idx t]

/-- The second output's block at point `t`. -/
theorem emb9 (t : Fin cfg0.N) (n : Fin 512) (j : Fin 1024) : (win0_9.blk t).view.emb (ix2 n j : S512x1024.Idx)
    = (ix2 ⟨(t : ℕ) * 512 + n, by have := lt64 t; omega⟩ j : S32768x1024.Idx) := by
  blk_ext [idx t]

/-- A load of the weights from row `o` on. -/
theorem ld_w (x : Vec Ideal S1024x1024 .bf16) (o : ℕ) (h) (i : Fin 512) (k : Fin 1024) (hi : o + i < 1024) :
    View.ld x (Rect.unit (s := S1024x1024) ![o, 0] S512x1024.size h) (ix2 i k) = x (ix2 ⟨o + i, hi⟩ k) := by
  refine congrArg x ?_
  ext a; fin_cases a
  · show o + 1 * (i : ℕ) = o + i; omega
  · show 0 + 1 * (k : ℕ) = k; omega

/-- A load of one row of the conditioning. -/
theorem ld_mod (x : Vec Ideal S1x6x1024 .f32) (i : Fin 6) (h) (k : Fin 1024) :
    View.ld x (Rect.unit (s := S1x6x1024) ![0, (i : ℕ), 0] S1x1x1024.size h) (ix3 0 0 k) = x (ix3 0 i k) := by
  refine congrArg x ?_
  ext a; fin_cases a
  · rfl
  · rfl
  · show 0 + 1 * (k : ℕ) = k; omega

/-- A load of a whole row. -/
theorem ld_row (x : Vec Ideal S1x1024 .f32) (k : Fin 1024) : View.ld x r0_3 (ix2 0 k) = x (ix2 0 k) := by
  refine congrArg x ?_
  ext a; fin_cases a
  · rfl
  · show 0 + 1 * (k : ℕ) = k; omega

/-- A load of a whole block of half tokens. -/
theorem ld_half (x : Vec Ideal S512x512 .bf16) (n i : Fin 512) : View.ld x r0_0 (ix2 n i) = x (ix2 n i) := by
  refine congrArg x ?_
  ext a; fin_cases a
  · show 0 + 1 * (n : ℕ) = n; omega
  · show 0 + 1 * (i : ℕ) = i; omega

/-- A load of a whole block of tokens. -/
theorem ld_x (x : Vec Ideal S512x1024 .f32) (n : Fin 512) (k : Fin 1024) : View.ld x r0_7 (ix2 n k) = x (ix2 n k) := by
  refine congrArg x ?_
  ext a; fin_cases a
  · show 0 + 1 * (n : ℕ) = n; omega
  · show 0 + 1 * (k : ℕ) = k; omega

section block
variable (x0 x1 : Vec Ideal S512x512 .bf16) (x2 : Vec Ideal S512x1024 .f32) (x3 : Vec Ideal S1x6x1024 .f32) (x4 : Vec Ideal S1024x1024 .bf16)
  (x5 x6 x7 : Vec Ideal S1x1024 .f32)

/-- The residual sums of one token of a block. -/
def blockResid (n : Fin 512) : Fin 1024 → EReal :=
  resid (fun i => x0 (ix2 n i)) (fun i => x1 (ix2 n i)) (fun i k => x4 (ix2 i k)) (fun k => x5 (ix2 0 k)) (fun k => x2 (ix2 n k))
    (fun k => x3 (ix3 0 2 k))

/-- The centred residual sums of a block. -/
theorem pay7_apply (n : Fin 512) (k : Fin 1024) : k0_pay7 x0 x1 x2 x3 x4 x5 x6 x7 (ix2 n k)
    = blockResid x0 x1 x2 x3 x4 x5 n k - mean (blockResid x0 x1 x2 x3 x4 x5 n) := by
  unfold k0_pay7
  refine pay3_apply _ _ _ _ _ _ _ n k _ fun k => ?_
  unfold blockResid resid
  refine congrArg₂ (· + ·) (congrArg₂ (· * ·) rfl (ld_x x2 n k).symm) (congrArg₂ (· * ·) (ld_mod x3 2 _ k).symm
    (congrArg₂ (· + ·) (congrArg₂ (· + ·) (Finset.sum_congr rfl fun i _ => congrArg₂ (· * ·) (ld_half x0 n i).symm ?_)
      (Finset.sum_congr rfl fun i _ => congrArg₂ (· * ·) (ld_half x1 n i).symm ?_)) (ld_row x5 k).symm))
  · exact ((ld_w x4 0 _ i k (by omega)).trans (congrArg x4 (congrArg (ix2 · k) (Fin.ext (by dsimp only; omega))))).symm
  · exact (ld_w x4 512 _ i k (by omega)).symm

/-- Their squares. -/
theorem pay8_apply (n : Fin 512) (k : Fin 1024) : k0_pay8 x0 x1 x2 x3 x4 x5 x6 x7 (ix2 n k)
    = (blockResid x0 x1 x2 x3 x4 x5 n k - mean (blockResid x0 x1 x2 x3 x4 x5 n)) * (blockResid x0 x1 x2 x3 x4 x5 n k - mean (blockResid x0 x1 x2 x3 x4 x5 n)) := by
  refine (pay4_apply _ _ _ _ _ _ _ n k).trans ?_
  have h := pay7_apply x0 x1 x2 x3 x4 x5 x6 x7 n k
  unfold k0_pay7 at h
  rw [h]

/-- The first payload of a block. -/
theorem first_apply (n : Fin 512) (k : Fin 1024) :
    k0_pay5 (k0_pay7 x0 x1 x2 x3 x4 x5 x6 x7) (k0_pay8 x0 x1 x2 x3 x4 x5 x6 x7) (View.ld x6 r0_3) (View.ld x7 r0_3) (ix2 n k)
      = gained (blockResid x0 x1 x2 x3 x4 x5 n) (fun k => x6 (ix2 0 k)) (fun k => x7 (ix2 0 k)) k := by
  refine (pay5_apply _ _ _ _ n k _ (pay7_apply x0 x1 x2 x3 x4 x5 x6 x7 n) (pay8_apply x0 x1 x2 x3 x4 x5 x6 x7 n)).trans ?_
  exact congrFun (congr (congrArg (gained _) (funext fun k => ld_row x6 k)) (funext fun k => ld_row x7 k)) k

/-- What the body leaves in the first output's block. -/
theorem out8_apply (n : Fin 512) (k : Fin 1024) : out0_8 x0 x1 x2 x3 x4 x5 x6 x7 (ix2 n k)
      = gained (blockResid x0 x1 x2 x3 x4 x5 n) (fun k => x6 (ix2 0 k)) (fun k => x7 (ix2 0 k)) k := by
  unfold out0_8
  rw [View.canon_unit_zero (by funext a; fin_cases a <;> rfl)]
  exact first_apply x0 x1 x2 x3 x4 x5 x6 x7 n k

/-- What the body leaves in the second output's block. -/
theorem out9_apply (n : Fin 512) (k : Fin 1024) : out0_9 x0 x1 x2 x3 x4 x5 x6 x7 (ix2 n k)
      = modulated (gained (blockResid x0 x1 x2 x3 x4 x5 n) (fun k => x6 (ix2 0 k)) (fun k => x7 (ix2 0 k))) (fun k => x3 (ix3 0 3 k)) (fun k => x3 (ix3 0 4 k)) k := by
  unfold out0_9
  rw [View.canon_unit_zero (by funext a; fin_cases a <;> rfl)]
  refine (pay6_apply _ _ _ _ _ _ n k).trans ?_
  refine congrFun (congr (congr (congrArg modulated (funext fun k => ?_)) (funext fun k => ?_)) (funext fun k => ?_)) k
  · exact first_apply x0 x1 x2 x3 x4 x5 x6 x7 n k
  · exact (pay1_apply _ k).trans (ld_mod x3 3 _ k)
  · exact (pay2_apply _ k).trans (ld_mod x3 4 _ k)

end block

/-- A block's residual sums, read off the whole arrays. -/
theorem blockResid_eq (c : Dev nD) (t : Fin cfg0.N) (n : Fin 512) :
    blockResid (iblk m c 0 t) (iblk m c 1 t) (iblk m c 2 t) (iblk m c 3 t) (iblk m c 4 t) (iblk m c 5 t) n
      = residAt (V m c main_arg0) (V m c main_arg1) (V m c main_arg2) (V m c main_arg3) (V m c main_v0) (V m c main_v1)
        ⟨(t : ℕ) * 512 + n, by have := lt64 t; omega⟩ := by
  have e : ((t : ℕ) * 512 + n) / 2048 = (t : ℕ) / 4 := by omega
  unfold blockResid residAt
  simp only [iblk0, iblk1, iblk2, iblk3, iblk4, iblk5, e]

/-- The first output's block is its part of the array. -/
theorem point8 (c : Dev nD) (t : Fin cfg0.N) (y : S512x1024.Idx) :
    out0_8 (iblk m c 0 t) (iblk m c 1 t) (iblk m c 2 t) (iblk m c 3 t) (iblk m c 4 t) (iblk m c 5 t) (iblk m c 6 t) (iblk m c 7 t) y
      = firstArr (V m c main_arg0) (V m c main_arg1) (V m c main_arg2) (V m c main_arg3) (V m c main_v0) (V m c main_v1) (V m c main_v2) (V m c main_v3)
        ((win0_8.blk t).view.emb y) := by
  obtain ⟨n, j, rfl⟩ : ∃ (n : Fin 512) (j : Fin 1024), y = ix2 n j := ⟨y 0, y 1, by ext i; fin_cases i <;> rfl⟩
  rw [emb8]
  refine (out8_apply _ _ _ _ _ _ _ _ n j).trans ?_
  rw [blockResid_eq]
  show _ = firstAt _ _ _ _ _ _ _ _ ⟨(t : ℕ) * 512 + n, _⟩ j
  unfold firstAt
  simp only [iblk6, iblk7]

/-- The second output's block is its part of the array. -/
theorem point9 (c : Dev nD) (t : Fin cfg0.N) (y : S512x1024.Idx) :
    out0_9 (iblk m c 0 t) (iblk m c 1 t) (iblk m c 2 t) (iblk m c 3 t) (iblk m c 4 t) (iblk m c 5 t) (iblk m c 6 t) (iblk m c 7 t) y
      = secondArr (V m c main_arg0) (V m c main_arg1) (V m c main_arg2) (V m c main_arg3) (V m c main_v0) (V m c main_v1) (V m c main_v2) (V m c main_v3)
        ((win0_9.blk t).view.emb y) := by
  obtain ⟨n, j, rfl⟩ : ∃ (n : Fin 512) (j : Fin 1024), y = ix2 n j := ⟨y 0, y 1, by ext i; fin_cases i <;> rfl⟩
  rw [emb9]
  refine (out9_apply _ _ _ _ _ _ _ _ n j).trans ?_
  rw [blockResid_eq]
  have e : ((t : ℕ) * 512 + n) / 2048 = (t : ℕ) / 4 := by omega
  show _ = secondAt _ _ _ _ _ _ _ _ ⟨(t : ℕ) * 512 + n, _⟩ j
  unfold secondAt firstAt
  simp only [iblk3, iblk6, iblk7, e]

/-- The first output array: the normed residual sums. -/
theorem array8_eq (c : Dev nD) : (dats m 0 c).arrAt 8 cfg0.N
    = firstArr (V m c main_arg0) (V m c main_arg1) (V m c main_arg2) (V m c main_arg3) (V m c main_v0) (V m c main_v1) (V m c main_v2) (V m c main_v3) := by
  refine (dats m 0 c).arrAt_eq_of_covers 8 _ (by decide +kernel) fun t _ y => ?_
  blk_simp
  rw [after0_8]
  exact point8 m c t y

/-- The second output array: the first, normed again and modulated. -/
theorem array9_eq (c : Dev nD) : (dats m 0 c).arrAt 9 cfg0.N
    = secondArr (V m c main_arg0) (V m c main_arg1) (V m c main_arg2) (V m c main_arg3) (V m c main_v0) (V m c main_v1) (V m c main_v2) (V m c main_v3) := by
  refine (dats m 0 c).arrAt_eq_of_covers 9 _ (by decide +kernel) fun t _ y => ?_
  blk_simp
  rw [after0_9]
  exact point9 m c t y

/-- The weights, cast. -/
theorem weights_eq (c : Dev nD) : V m c main_v0 = (show S1024x1024.Idx → EReal from m (c, Proc.devRef .tc main_arg4)) := by
  funext i
  unfold V
  after_reads_at

/-- The biases, laid out as one row. -/
theorem biases_eq (c : Dev nD) (k : Fin 1024) : V m c main_v1 (ix2 0 k) = (show S1024.Idx → EReal from m (c, Proc.devRef .tc main_arg5)) (ix1 k) := by
  unfold V
  after_reads_at

/-- The gains, laid out as one row. -/
theorem gains_eq (c : Dev nD) (k : Fin 1024) : V m c main_v2 (ix2 0 k) = (show S1024.Idx → EReal from m (c, Proc.devRef .tc main_arg6)) (ix1 k) := by
  unfold V
  after_reads_at

/-- The norm's biases, laid out as one row. -/
theorem normBiases_eq (c : Dev nD) (k : Fin 1024) : V m c main_v3 (ix2 0 k) = (show S1024.Idx → EReal from m (c, Proc.devRef .tc main_arg7)) (ix1 k) := by
  unfold V
  after_reads_at

end Cert.Kernel3Ideal.Value
end
-- ==== Proof.OutProjRef.lean ====
/- The reference's output projection, read entry by entry. -/
module

public import proofs.«01_k».proof.Proof.Gen.Reference3Ideal.Run
public import proofs.«01_k».proof.Proof.InProjRef
public import proofs.«01_k».proof.Proof.OutProjKernel
public import Idealize.ShloMosaic.Lib.Pointwise

@[expose] public section

set_option maxRecDepth 16384

noncomputable section

open Idealize.ShloMosaic Idealize.ShloMosaic.TcCoe Idealize.SL.Sem

namespace Cert.Reference3Ideal.Value

open Cert.Reference3Ideal Cert.Reference3Ideal.Gen Cert.Norm Cert.OutProj
open Cert.Reference2Ideal.Value (normArr modArr)

/-- The conditioning's gate of every sequence. -/
def row2 (M : FVec Ideal S16x6x1024 .f32) : FVec Ideal S16x1x1024 .f32 :=
  broadcastInDim S16x1x1024 ![0, 2] bcast_S16x1024_S16x1x1024_0_2 (shapeCast _ (extractStridedSlice S16x1x1024 ![0, 2, 0] M slices_S16x6x1024_S16x1x1024_0_2_0) shapeCasts_S16x1x1024_S16x1024)

/-- The conditioning's second shift of every sequence. -/
def row3 (M : FVec Ideal S16x6x1024 .f32) : FVec Ideal S16x1x1024 .f32 :=
  broadcastInDim S16x1x1024 ![0, 2] bcast_S16x1024_S16x1x1024_0_2 (shapeCast _ (extractStridedSlice S16x1x1024 ![0, 3, 0] M slices_S16x6x1024_S16x1x1024_0_3_0) shapeCasts_S16x1x1024_S16x1024)

/-- The conditioning's second scale of every sequence. -/
def row4 (M : FVec Ideal S16x6x1024 .f32) : FVec Ideal S16x1x1024 .f32 :=
  broadcastInDim S16x1x1024 ![0, 2] bcast_S16x1024_S16x1x1024_0_2 (shapeCast _ (extractStridedSlice S16x1x1024 ![0, 4, 0] M slices_S16x6x1024_S16x1x1024_0_4_0) shapeCasts_S16x1x1024_S16x1024)

/-- The two halves of every token, side by side. -/
def halves (A C : FVec Ideal S32768x512 .bf16) : FVec Ideal S16x2048x1024 .f32 :=
  shapeCast _ (concatenate S32768x1024 1 [⟨S32768x512, (extf .f32 A bitsLt_bf16_f32)⟩, ⟨S32768x512, (extf .f32 C bitsLt_bf16_f32)⟩] concatenates_S32768x512_S32768x512_S32768x1024_d1) shapeCasts_S32768x1024_S16x2048x1024

/-- A vector of channels, repeated for every token. -/
def channels (B : FVec Ideal S1024 .f32) : FVec Ideal S16x2048x1024 .f32 :=
  broadcastInDim S16x2048x1024 ![0, 1, 2] bcast_S1x1x1024_S16x2048x1024_0_1_2 (broadcastInDim S1x1x1024 ![2] bcast_S1024_S1x1x1024_2 B)

/-- The residual sums over the joined halves. -/
def residArr (y : FVec Ideal S16x2048x1024 .f32) (X : FVec Ideal S32768x1024 .f32) (gate : FVec Ideal S16x1x1024 .f32) (W : FVec Ideal S1024x1024 .f32)
    (B : FVec Ideal S1024 .f32) : FVec Ideal S16x2048x1024 .f32 :=
  addf (mulf (broadcastInDim S16x2048x1024 ![] bcast_S_S16x2048x1024 (constant S_ .f32 0x3F9837F0#32)) (shapeCast _ X shapeCasts_S32768x1024_S16x2048x1024)) (mulf (broadcastInDim S16x2048x1024 ![0, 1, 2] bcast_S16x1x1024_S16x2048x1024_0_1_2 gate) (addf (Host.dotGeneral dot_S16x2048x1024_S1024x1024_S16x2048x1024_2_0_01_1_n_n none y W) (channels B)))

/-- The layer norm with gain and bias. -/
def gainedArr (r : FVec Ideal S16x2048x1024 .f32) (G L : FVec Ideal S1024 .f32) : FVec Ideal S16x2048x1024 .f32 :=
  addf (mulf (normArr r) (channels G)) (channels L)

/-- The first result, before it is laid out by token. -/
def firstRef (A C : FVec Ideal S32768x512 .bf16) (X : FVec Ideal S32768x1024 .f32) (M : FVec Ideal S16x6x1024 .f32) (W : FVec Ideal S1024x1024 .f32)
    (B G L : FVec Ideal S1024 .f32) : FVec Ideal S16x2048x1024 .f32 :=
  gainedArr (residArr (halves A C) X (row2 M) W B) G L

/-- The second result, before it is laid out by token. -/
def secondRef (A C : FVec Ideal S32768x512 .bf16) (X : FVec Ideal S32768x1024 .f32) (M : FVec Ideal S16x6x1024 .f32) (W : FVec Ideal S1024x1024 .f32)
    (B G L : FVec Ideal S1024 .f32) : FVec Ideal S16x2048x1024 .f32 :=
  modArr (firstRef A C X M W B G L) (row3 M) (row4 M)

/-- The tokens of all sequences in one list. -/
def listed (x : FVec Ideal S16x2048x1024 .f32) : FVec Ideal S32768x1024 .f32 := shapeCast _ x shapeCasts_S16x2048x1024_S32768x1024

/-- The gate, read. -/
theorem row2_apply (M : FVec Ideal S16x6x1024 .f32) (b : Fin 16) (k : Fin 1024) : row2 M (ix3 b 0 k) = M (ix3 b 2 k) := by
  pointwise [row2]

/-- The second shift, read. -/
theorem row3_apply (M : FVec Ideal S16x6x1024 .f32) (b : Fin 16) (k : Fin 1024) : row3 M (ix3 b 0 k) = M (ix3 b 3 k) := by
  pointwise [row3]

/-- The second scale, read. -/
theorem row4_apply (M : FVec Ideal S16x6x1024 .f32) (b : Fin 16) (k : Fin 1024) : row4 M (ix3 b 0 k) = M (ix3 b 4 k) := by
  pointwise [row4]

/-- The repeated channels, read. -/
theorem channels_apply (B : FVec Ideal S1024 .f32) (b : Fin 16) (s : Fin 2048) (k : Fin 1024) : channels B (ix3 b s k) = B (ix1 k) := by
  pointwise [channels]

/-- The joined halves, read. -/
theorem halves_apply (A C : FVec Ideal S32768x512 .bf16) (b : Fin 16) (s : Fin 2048) (k : Fin 1024) : halves A C (ix3 b s k)
    = if h : (k : ℕ) < 512 then A (ix2 ⟨(b : ℕ) * 2048 + s, by omega⟩ ⟨k, h⟩) else C (ix2 ⟨(b : ℕ) * 2048 + s, by omega⟩ ⟨(k : ℕ) - 512, by omega⟩) := by
  pointwise [halves]

/-- A sum over 1024 channels is the sum over its two halves. -/
theorem sum_halves (f : Fin 1024 → EReal) : ∑ k, f k = ∑ i : Fin 512, f ⟨i, by omega⟩ + ∑ i : Fin 512, f ⟨512 + i, by omega⟩ :=
  Fin.sum_univ_add (a := 512) (b := 512) f

/-- The residual sums, read. -/
theorem residArr_apply (A C : FVec Ideal S32768x512 .bf16) (X : FVec Ideal S32768x1024 .f32) (M : FVec Ideal S16x6x1024 .f32) (W : FVec Ideal S1024x1024 .f32)
    (B : FVec Ideal S1024 .f32) (b : Fin 16) (s : Fin 2048) (k : Fin 1024) :
    residArr (halves A C) X (row2 M) W B (ix3 b s k)
      = resid (fun i => A (ix2 ⟨(b : ℕ) * 2048 + s, by omega⟩ i)) (fun i => C (ix2 ⟨(b : ℕ) * 2048 + s, by omega⟩ i)) (fun i k => W (ix2 i k))
        (fun k => B (ix1 k)) (fun k => X (ix2 ⟨(b : ℕ) * 2048 + s, by omega⟩ k)) (fun k => M (ix3 b 2 k)) k := by
  have hsum : ∑ i : Fin 1024, halves A C (ix3 b s i) * W (ix2 i k)
      = ∑ i : Fin 512, A (ix2 ⟨(b : ℕ) * 2048 + s, by omega⟩ i) * W (ix2 ⟨i, by omega⟩ k)
        + ∑ i : Fin 512, C (ix2 ⟨(b : ℕ) * 2048 + s, by omega⟩ i) * W (ix2 ⟨512 + i, by omega⟩ k) := by
    rw [sum_halves]
    refine congrArg₂ (· + ·) (Finset.sum_congr rfl fun i _ => congrArg₂ (· * ·) ?_ rfl) (Finset.sum_congr rfl fun i _ => congrArg₂ (· * ·) ?_ rfl)
    · rw [halves_apply, dif_pos (show ((⟨(i : ℕ), by omega⟩ : Fin 1024) : ℕ) < 512 from i.isLt)]
    · rw [halves_apply, dif_neg (by dsimp only; omega)]
      exact congrArg C (congrArg (ix2 _) (Fin.ext (by dsimp only; omega)))
  unfold resid
  refine Eq.trans ?_ (congrArg₂ (· + ·) rfl (congrArg₂ (· * ·) (row2_apply M b k) (congrArg₂ (· + ·) hsum (channels_apply B b s k))))
  unfold residArr
  generalize halves A C = y
  generalize row2 M = g
  generalize channels B = z
  pointwise

/-- The normed residual sums, read. -/
theorem gainedArr_apply (r : FVec Ideal S16x2048x1024 .f32) (G L : FVec Ideal S1024 .f32) (b : Fin 16) (s : Fin 2048) (k : Fin 1024) :
    gainedArr r G L (ix3 b s k) = gained (fun k => r (ix3 b s k)) (fun k => G (ix1 k)) (fun k => L (ix1 k)) k :=
  congrArg₂ (· + ·) (congrArg₂ (· * ·) (Cert.Reference2Ideal.Value.normArr_apply r b s k) (channels_apply G b s k)) (channels_apply L b s k)

/-- A listed token, read. -/
theorem listed_apply (x : FVec Ideal S16x2048x1024 .f32) (t : Fin 32768) (k : Fin 1024) :
    listed x (ix2 t k) = x (ix3 ⟨(t : ℕ) / 2048, by omega⟩ ⟨(t : ℕ) % 2048, by omega⟩ k) := by
  pointwise [listed]

end Cert.Reference3Ideal.Value
end
-- ==== Proof.OutProjEquation.lean ====
/- The output projection: the kernel's two arrays are the reference's two results. -/
module

public import proofs.«01_k».proof.Proof.OutProjKernel
public import proofs.«01_k».proof.Proof.OutProjRef

@[expose] public section

set_option maxRecDepth 16384

noncomputable section

open Idealize.ShloMosaic Idealize.ShloMosaic.TcCoe Idealize.SL.Sem

namespace Cert.OutProj

open Cert.Norm Cert.Kernel3Ideal Cert.Kernel3Ideal.Value Cert.Reference3Ideal.Value

variable (m : (ℓ : Loc nD τ sig) → Buf (Elt Ideal) ℓ)

section arrays
variable (A C : FVec Ideal Cert.Reference3Ideal.S32768x512 .bf16) (X : FVec Ideal Cert.Reference3Ideal.S32768x1024 .f32)
  (M : FVec Ideal Cert.Reference3Ideal.S16x6x1024 .f32) (W : FVec Ideal Cert.Reference3Ideal.S1024x1024 .f32)
  (B G L : FVec Ideal Cert.Reference3Ideal.S1024 .f32) (B' G' L' : S1x1024.Idx → EReal)
  (hB : ∀ k, B' (ix2 0 k) = B (ix1 k)) (hG : ∀ k, G' (ix2 0 k) = G (ix1 k)) (hL : ∀ k, L' (ix2 0 k) = L (ix1 k))

include hB hG hL in
/-- The first result of a token is the kernel's. -/
theorem firstRef_apply (b : Fin 16) (s : Fin 2048) (k : Fin 1024) :
    firstRef A C X M W B G L (ix3 b s k) = firstAt A C X M W B' G' L' ⟨(b : ℕ) * 2048 + s, by omega⟩ k := by
  have e : (⟨((b : ℕ) * 2048 + s) / 2048, by omega⟩ : Fin 16) = b := Fin.ext (by dsimp only; omega)
  unfold firstRef
  rw [gainedArr_apply]
  unfold firstAt residAt
  simp only [residArr_apply, hB, hG, hL]
  rw [e]

include hB hG hL in
/-- The second result of a token is the kernel's. -/
theorem secondRef_apply (b : Fin 16) (s : Fin 2048) (k : Fin 1024) :
    secondRef A C X M W B G L (ix3 b s k) = secondAt A C X M W B' G' L' ⟨(b : ℕ) * 2048 + s, by omega⟩ k := by
  have e : (⟨((b : ℕ) * 2048 + s) / 2048, by omega⟩ : Fin 16) = b := Fin.ext (by dsimp only; omega)
  unfold secondRef secondAt
  rw [e]
  refine (Cert.Reference2Ideal.Value.modArr_apply _ _ _ b s k).trans ?_
  refine congrFun (congr (congr (congrArg modulated (funext fun k => ?_)) (funext fun k => ?_)) (funext fun k => ?_)) k
  · exact firstRef_apply A C X M W B G L B' G' L' hB hG hL b s k
  · exact row3_apply M b k
  · exact row4_apply M b k

include hB hG hL in
/-- The first result as an array is the kernel's array. -/
theorem first_arrays : listed (firstRef A C X M W B G L) = firstArr A C X M W B' G' L' := by
  funext i
  obtain ⟨t, k, rfl⟩ : ∃ (t : Fin 32768) (k : Fin 1024), i = ix2 t k := ⟨i 0, i 1, by ext a; fin_cases a <;> rfl⟩
  refine (listed_apply _ t k).trans ((firstRef_apply A C X M W B G L B' G' L' hB hG hL _ _ k).trans ?_)
  show firstAt _ _ _ _ _ _ _ _ _ k = firstAt _ _ _ _ _ _ _ _ t k
  exact congrFun (congrArg (firstAt A C X M W B' G' L') (Fin.ext (by dsimp only; omega))) k

include hB hG hL in
/-- The second result as an array is the kernel's array. -/
theorem second_arrays : listed (secondRef A C X M W B G L) = secondArr A C X M W B' G' L' := by
  funext i
  obtain ⟨t, k, rfl⟩ : ∃ (t : Fin 32768) (k : Fin 1024), i = ix2 t k := ⟨i 0, i 1, by ext a; fin_cases a <;> rfl⟩
  refine (listed_apply _ t k).trans ((secondRef_apply A C X M W B G L B' G' L' hB hG hL _ _ k).trans ?_)
  show secondAt _ _ _ _ _ _ _ _ _ k = secondAt _ _ _ _ _ _ _ _ t k
  exact congrFun (congrArg (secondAt A C X M W B' G' L') (Fin.ext (by dsimp only; omega))) k

end arrays

/-- The reference's first result over the kernel's launch contents is the kernel's first array. -/
theorem first_eq (c : Dev nD) :
    listed (firstRef (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)))
      = (Cert.Kernel3Ideal.Gen.dats (F := Ideal) m 0 c).arrAt 8 cfg0.N := by
  rw [array8_eq, Cert.Kernel3Ideal.Gen.V_main_arg0 m c, Cert.Kernel3Ideal.Gen.V_main_arg1 m c, Cert.Kernel3Ideal.Gen.V_main_arg2 m c, Cert.Kernel3Ideal.Gen.V_main_arg3 m c, weights_eq]
  exact first_arrays _ _ _ _ _ _ _ _ _ _ _ (biases_eq m c) (gains_eq m c) (normBiases_eq m c)

/-- The reference's second result over the kernel's launch contents is the kernel's second array. -/
theorem second_eq (c : Dev nD) :
    listed (secondRef (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)))
      = (Cert.Kernel3Ideal.Gen.dats (F := Ideal) m 0 c).arrAt 9 cfg0.N := by
  rw [array9_eq, Cert.Kernel3Ideal.Gen.V_main_arg0 m c, Cert.Kernel3Ideal.Gen.V_main_arg1 m c, Cert.Kernel3Ideal.Gen.V_main_arg2 m c, Cert.Kernel3Ideal.Gen.V_main_arg3 m c, weights_eq]
  exact second_arrays _ _ _ _ _ _ _ _ _ _ _ (biases_eq m c) (gains_eq m c) (normBiases_eq m c)

end Cert.OutProj
end
-- ==== Proof.OutProjRun.lean ====
/- What the reference's output projection leaves in memory. -/
module

public import proofs.«01_k».proof.Proof.OutProjRef

@[expose] public section

set_option maxRecDepth 16384

noncomputable section

open Idealize.ShloMosaic Idealize.ShloMosaic.TcCoe Idealize.SL.Sem

namespace Cert.Reference3Ideal.Value

open Cert.Reference3Ideal Cert.Reference3Ideal.Gen
open Cert.Reference2Ideal.Value (meanArr centredArr normArr modArr)

variable (m : (ℓ : Loc nD τ sig) → Buf (Elt Ideal) ℓ)

/-- The first result of the reference's run. -/
theorem res0_eq (c : Dev nD) : res_main_v71 (F := Ideal) m c = listed (firstRef (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))) := by
  unfold res_main_v71 firstRef gainedArr residArr normArr centredArr meanArr halves channels row2 listed
  rfl

/-- The second result of the reference's run. -/
theorem res1_eq (c : Dev nD) : res_main_v73 (F := Ideal) m c = listed (secondRef (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))) := by
  unfold res_main_v73 secondRef modArr firstRef gainedArr residArr normArr centredArr meanArr halves channels row2 row3 row4 listed
  rfl

end Cert.Reference3Ideal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_scores
public import proofs.«01_k».proof.Proof.Equation
public import proofs.«01_k».proof.Proof.AdaEquation
public import proofs.«01_k».proof.Proof.FoldEquation
public import proofs.«01_k».proof.Proof.Finite
public import proofs.«01_k».proof.Proof.InProjEquation
public import proofs.«01_k».proof.Proof.OutProjEquation
public import proofs.«01_k».proof.Proof.OutProjRun
public import Idealize.ShloMosaic.Adequacy
public import Idealize.ShloMosaic.Init

@[expose] public section

noncomputable section

namespace Cert.Proof

open Idealize.ShloMosaic Idealize.SL.Sem Cert.Kernel

/-- The reference's result, as an array, is the kernel's output, as an array. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.result (F := Ideal) (StableHlo.launchContents m' c) = (Cert.KernelIdeal.Gen.dats (F := Ideal) m 0 c).arrAt 4 Cert.KernelIdeal.cfg0.N := by
  funext j
  obtain ⟨b, t, col, rfl⟩ : ∃ (b : Fin 16) (t : Fin 2048) (col : Fin 512), j = ix3 b t col :=
    ⟨j 0, j 1, j 2, by ext i; fin_cases i <;> rfl⟩
  obtain ⟨r, q, hr⟩ : ∃ (r : Fin 32) (q : Fin 64), (⟨(r : ℕ) * 64 + q, by omega⟩ : Fin 2048) = t :=
    ⟨⟨(t : ℕ) / 64, by omega⟩, ⟨(t : ℕ) % 64, by omega⟩, Fin.ext (by dsimp only; omega)⟩
  subst hr
  have ht : Cert.ReferenceIdeal.Value.tokens (StableHlo.launchContents m' c) = m ((c.tc : Thread Cert.KernelIdeal.nD Cert.KernelIdeal.τ).loc Cert.KernelIdeal.main_arg0) := h0
  have hb : Cert.ReferenceIdeal.Value.biases (StableHlo.launchContents m' c) = m ((c.tc : Thread Cert.KernelIdeal.nD Cert.KernelIdeal.τ).loc Cert.KernelIdeal.main_arg1) := h1
  have hV : Cert.KernelIdeal.Gen.V m c Cert.KernelIdeal.main_arg0 = m ((c.tc : Thread Cert.KernelIdeal.nD Cert.KernelIdeal.τ).loc Cert.KernelIdeal.main_arg0) := by
    exact Cert.KernelIdeal.Gen.V_main_arg0 m c
  obtain ⟨fX, fB⟩ := Cert.Pre_finite_scores.parts _ _ (hp c)
  rw [Cert.KernelIdeal.Value.array_eq, hV]
  refine (Cert.ReferenceIdeal.Value.result_eq _ b r q col).trans ?_
  rw [ht, hb]
  refine (Cert.Attention.attention_eq _ _ fX fB b r q col).symm.trans ?_
  refine (Cert.Attention.kernel_row _ _ _ (Cert.KernelIdeal.Value.table m c) b r q col).symm.trans ?_
  have e1 : ((r : ℕ) * 64 + q) / 64 = r := by omega
  have e2 : ((r : ℕ) * 64 + q) % 64 = q := by omega
  show _ = Cert.KernelIdeal.Value.attnAt _ _ b ⟨((r : ℕ) * 64 + q) / 64, _⟩ ⟨((r : ℕ) * 64 + q) % 64, _⟩ col
  simp only [e1, e2]

/-- The output projection's first result is the kernel's first output array. -/
theorem out_first (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Value.res_main_v71 (F := Ideal) m' c = (Cert.Kernel3Ideal.Gen.dats (F := Ideal) m 0 c).arrAt 8 Cert.Kernel3Ideal.cfg0.N := by
  rw [Cert.Reference3Ideal.Value.res0_eq, h0, h1, h2, h3, h4, h5, h6, h7]
  exact Cert.OutProj.first_eq m c

/-- The output projection's second result is the kernel's second output array. -/
theorem out_second (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Value.res_main_v73 (F := Ideal) m' c = (Cert.Kernel3Ideal.Gen.dats (F := Ideal) m 0 c).arrAt 9 Cert.Kernel3Ideal.cfg0.N := by
  rw [Cert.Reference3Ideal.Value.res1_eq, h0, h1, h2, h3, h4, h5, h6, h7]
  exact Cert.OutProj.second_eq m c

/-- Every claim of the certificate: the frames, and that each kernel's arrays are its reference's arrays. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite_scores.Gen.facts,
  fun m g _ => Cert.Kernel.Gen.frame m g,
  fun m g _ => Cert.KernelIdeal.Gen.frame m g,
  fun m g _ => Cert.KernelIdeal.Gen.frame m g,
  fun m g _ => (θ_run Cert.ReferenceIdeal.defs _ _).mono
    (fun r h => ⟨fun c => ⟨(h c).2.1, (h c).2.2⟩, sem_eq_zero_of_no_sems (by decide) r.2⟩)
    (Cert.ReferenceIdeal.Value.run (F := Ideal) m g),
  fun m g _ => Cert.Kernel2.Gen.frame m g,
  fun m g _ => Cert.Kernel2Ideal.Gen.frame m g,
  fun m g _ => (θ_run Cert.Reference2Ideal.defs _ _).mono
    (fun r h => ⟨fun c => (h c).2, sem_eq_zero_of_no_sems (by decide) r.2⟩)
    (Cert.Reference2Ideal.Value.run_results m g),
  fun m g _ => Cert.Kernel3.Gen.frame m g,
  fun m g _ => Cert.Kernel3Ideal.Gen.frame m g,
  fun m g _ => (θ_run Cert.Reference3Ideal.defs _ _).mono
    (fun r h => ⟨fun c => (h c).2.2, sem_eq_zero_of_no_sems (by decide) r.2⟩)
    (Cert.Reference3Ideal.Value.run (F := Ideal) m g),
  fun m g _ => Cert.Kernel4.Gen.frame m g,
  fun m g _ => Cert.Kernel4Ideal.Gen.frame m g,
  fun m g _ => (θ_run Cert.Reference4Ideal.defs _ _).mono
    (fun r h => ⟨fun c => (h c).2, sem_eq_zero_of_no_sems (by decide) r.2⟩)
    (Cert.Reference4Ideal.Value.run (F := Ideal) m g),
  fun m g _ => Cert.Kernel5.Gen.frame m g,
  fun m g _ => Cert.Kernel5Ideal.Gen.frame m g,
  fun m g _ => (θ_run Cert.Reference5Ideal.defs _ _).mono
    (fun r h => ⟨fun c => (h c).2, sem_eq_zero_of_no_sems (by decide) r.2⟩)
    (Cert.Reference5Ideal.Value.run (F := Ideal) m g),
  trivial,
  fun m g m' g' hp ha => ⟨fun c => (Cert.KernelIdeal.Gen.dats (F := Ideal) m 0 c).arrAt 4 Cert.KernelIdeal.cfg0.N,
    Cert.KernelIdeal.Value.run_blocks m g,
    (θ_run Cert.ReferenceIdeal.defs _ _).mono
      (fun r h c => ⟨(h c).1.trans (arrays_eq m m' hp c (ha c).1 (ha c).2), (h c).2.1, (h c).2.2⟩)
      (Cert.ReferenceIdeal.Value.run (F := Ideal) m' g')⟩,
  trivial,
  fun m g m' g' _ ha => ⟨fun c => (Cert.Kernel2Ideal.Gen.dats (F := Ideal) m 0 c).arrAt 4 Cert.Kernel2Ideal.cfg0.N,
    fun c => (Cert.Kernel2Ideal.Gen.dats (F := Ideal) m 0 c).arrAt 5 Cert.Kernel2Ideal.cfg0.N,
    Cert.Kernel2Ideal.Value.run_blocks m g,
    (θ_run Cert.Reference2Ideal.defs _ _).mono
      (fun r h c =>
        have e := Cert.InProj.refProj_eq m m' c (ha c).1 (ha c).2.1 (ha c).2.2.1 (ha c).2.2.2
        ⟨(h c).1.1.trans ((congrArg Cert.Reference2Ideal.Value.qkvOf e).trans (Cert.InProj.first_eq m c)),
          (h c).1.2.trans ((congrArg Cert.Reference2Ideal.Value.cagOf e).trans (Cert.InProj.second_eq m c)), (h c).2⟩)
      (Cert.Reference2Ideal.Value.run_results m' g')⟩,
  trivial,
  fun m g m' g' _ ha => ⟨fun c => (Cert.Kernel3Ideal.Gen.dats (F := Ideal) m 0 c).arrAt 8 Cert.Kernel3Ideal.cfg0.N,
    fun c => (Cert.Kernel3Ideal.Gen.dats (F := Ideal) m 0 c).arrAt 9 Cert.Kernel3Ideal.cfg0.N,
    Cert.Kernel3Ideal.Value.run_blocks m g,
    (θ_run Cert.Reference3Ideal.defs _ _).mono
      (fun r h c =>
        have a := ha c
        ⟨(h c).1.trans (out_first m m' c a.1 a.2.1 a.2.2.1 a.2.2.2.1 a.2.2.2.2.1 a.2.2.2.2.2.1 a.2.2.2.2.2.2.1 a.2.2.2.2.2.2.2),
          (h c).2.1.trans (out_second m m' c a.1 a.2.1 a.2.2.1 a.2.2.2.1 a.2.2.2.2.1 a.2.2.2.2.2.1 a.2.2.2.2.2.2.1 a.2.2.2.2.2.2.2), (h c).2.2⟩)
      (Cert.Reference3Ideal.Value.run (F := Ideal) m' g')⟩,
  trivial,
  fun m g m' g' _ ha => ⟨fun c => (Cert.Kernel4Ideal.Gen.dats (F := Ideal) m 0 c).arrAt 3 Cert.Kernel4Ideal.cfg0.N,
    Cert.Kernel4Ideal.Value.run_blocks m g,
    (θ_run Cert.Reference4Ideal.defs _ _).mono
      (fun r h c => ⟨(h c).1.trans (Cert.Ada.result_eq m m' c (ha c).1 (ha c).2.1 (ha c).2.2), (h c).2⟩)
      (Cert.Reference4Ideal.Value.run (F := Ideal) m' g')⟩,
  trivial,
  fun m g m' g' _ ha => ⟨fun c => (Cert.Kernel5Ideal.Gen.dats (F := Ideal) m 0 c).arrAt 2 Cert.Kernel5Ideal.cfg0.N,
    Cert.Kernel5Ideal.Value.run_blocks m g,
    (θ_run Cert.Reference5Ideal.defs _ _).mono
      (fun r h c => ⟨(h c).1.trans (Cert.Fold.result_eq m m' c (ha c).1 (ha c).2), (h c).2⟩)
      (Cert.Reference5Ideal.Value.run (F := Ideal) m' g')⟩⟩

end Cert.Proof

end
